-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_codes_in_table [hPre_codes_in_table : Cert.Pre_codes_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_codes_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codes_in_table [hPre_codes_in_table : Cert.Pre_codes_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codes_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_codes_in_table [hKernelIdeal : Cert.KernelIdeal.Facts] [hPre_codes_in_table : Cert.Pre_codes_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_codes_in_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_codes_in_table [hReferenceIdeal : Cert.ReferenceIdeal.Facts] [hPre_codes_in_table : Cert.Pre_codes_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codes_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_codes_in_table [hKernelIdeal : Cert.KernelIdeal.Facts] [hReferenceIdeal : Cert.ReferenceIdeal.Facts] [hPre_codes_in_table : Cert.Pre_codes_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_codes_in_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_codes_in_table : Cert.Pre_codes_in_table.Facts),
    quiescent_Kernel (hKernel := hKernel)
    ∧ quiescent_KernelIdeal (hKernelIdeal := hKernelIdeal)
    ∧ quiescent_KernelIdeal_pre_codes_in_table (hKernelIdeal := hKernelIdeal) (hPre_codes_in_table := hPre_codes_in_table)
    ∧ quiescent_ReferenceIdeal (hReferenceIdeal := hReferenceIdeal)
    ∧ quiescent_ReferenceIdeal_pre_codes_in_table (hReferenceIdeal := hReferenceIdeal) (hPre_codes_in_table := hPre_codes_in_table)
    ∧ preserves_Kernel_KernelIdeal
    ∧ algebraic_KernelIdeal_ReferenceIdeal_pre_codes_in_table (hKernelIdeal := hKernelIdeal) (hReferenceIdeal := hReferenceIdeal) (hPre_codes_in_table := hPre_codes_in_table)
-- ==== Pre_codes_in_table.lean ====
abbrev S8x2048x2048 : Shape := ⟨3, ![8, 2048, 2048]⟩
abbrev S2048x8192 : Shape := ⟨2, ![2048, 8192]⟩
abbrev S16 : Shape := ⟨1, ![16]⟩
abbrev S32x8192 : Shape := ⟨2, ![32, 8192]⟩
abbrev S32x32 : Shape := ⟨2, ![32, 32]⟩
abbrev S1 : Shape := ⟨1, ![1]⟩
abbrev S2048x16 : Shape := ⟨2, ![2048, 16]⟩
abbrev S16x8192 : Shape := ⟨2, ![16, 8192]⟩
abbrev S8192 : Shape := ⟨1, ![8192]⟩
abbrev S_ : Shape := ⟨0, ![]⟩

class Facts : Prop where
  bcast_S_S2048x8192 : S_.BroadcastsInDim S2048x8192 (![] : Fin 0 → Fin S2048x8192.rank)

variable [Facts]

def fn {F : FTy → Type} [FloatOps F] (main_arg0 : FVec F S8x2048x2048 .f32) (main_arg1 : IVec S2048x8192 8) (main_arg2 : FVec F S16 .f32) (main_arg3 : IVec S32x8192 8) (main_arg4 : FVec F S32x32 .f32) (main_arg5 : FVec F S1 .f32) (main_arg6 : FVec F S2048x16 .bf16) (main_arg7 : FVec F S16x8192 .bf16) (main_arg8 : FVec F S8192 .f32) : IVec S2048x8192 1 :=
  let main_c : IVec S_ 8 := constantI S_ 8 16#8
  let main_v0 : IVec S2048x8192 8 := broadcastInDim S2048x8192 ![] bcast_S_S2048x8192 main_c
  let main_v1 : IVec S2048x8192 1 := cmpi .ult main_arg1 main_v0
  main_v1
-- ==== Kernel.lean ====
abbrev S8x2048x2048 : Shape := ⟨3, ![8, 2048, 2048]⟩
abbrev S2048x8192 : Shape := ⟨2, ![2048, 8192]⟩
abbrev S16 : Shape := ⟨1, ![16]⟩
abbrev S32x8192 : Shape := ⟨2, ![32, 8192]⟩
abbrev S32x32 : Shape := ⟨2, ![32, 32]⟩
abbrev S1 : Shape := ⟨1, ![1]⟩
abbrev S2048x16 : Shape := ⟨2, ![2048, 16]⟩
abbrev S16x8192 : Shape := ⟨2, ![16, 8192]⟩
abbrev S8192 : Shape := ⟨1, ![8192]⟩
abbrev S32x8x4 : Shape := ⟨3, ![32, 8, 4]⟩
abbrev S8x32x4 : Shape := ⟨3, ![8, 32, 4]⟩
abbrev S16384x2048 : Shape := ⟨2, ![16384, 2048]⟩
abbrev S1x8192 : Shape := ⟨2, ![1, 8192]⟩
abbrev S16384x8192 : Shape := ⟨2, ![16384, 8192]⟩
abbrev S512x2048 : Shape := ⟨2, ![512, 2048]⟩
abbrev S2048x1024 : Shape := ⟨2, ![2048, 1024]⟩
abbrev S32x1024 : Shape := ⟨2, ![32, 1024]⟩
abbrev S1x32x4 : Shape := ⟨3, ![1, 32, 4]⟩
abbrev S16x1024 : Shape := ⟨2, ![16, 1024]⟩
abbrev S1x1024 : Shape := ⟨2, ![1, 1024]⟩
abbrev S512x1024 : Shape := ⟨2, ![512, 1024]⟩
abbrev S8x2176x1024 : Shape := ⟨3, ![8, 2176, 1024]⟩
abbrev S512x2176 : Shape := ⟨2, ![512, 2176]⟩
abbrev S1x32x1 : Shape := ⟨3, ![1, 32, 1]⟩
abbrev S32x1 : Shape := ⟨2, ![32, 1]⟩
abbrev S32x256 : Shape := ⟨2, ![32, 256]⟩
abbrev S64x1024 : Shape := ⟨2, ![64, 1024]⟩
abbrev S1x2176x1024 : Shape := ⟨3, ![1, 2176, 1024]⟩
abbrev S2176x1024 : Shape := ⟨2, ![2176, 1024]⟩
abbrev S1x64x1024 : Shape := ⟨3, ![1, 64, 1024]⟩
abbrev S1x16x1024 : Shape := ⟨3, ![1, 16, 1024]⟩
abbrev S112x1024 : Shape := ⟨2, ![112, 1024]⟩
abbrev S1x112x1024 : Shape := ⟨3, ![1, 112, 1024]⟩
abbrev S512x16 : Shape := ⟨2, ![512, 16]⟩
abbrev S512x112 : Shape := ⟨2, ![512, 112]⟩
abbrev S512x128 : Shape := ⟨2, ![512, 128]⟩
abbrev S8x2048x8192 : Shape := ⟨3, ![8, 2048, 8192]⟩

abbrev nBuf : Space → Nat
  | .hbm => 15
  | .vmem => 17
  | .smem => 2
  | _ => 0

abbrev bufTy : (tb : Table) → Fin (tcTables nBuf tb) → BufTy
  | .hbm, ⟨0, _⟩ => ⟨S8x2048x2048, .f32⟩
  | .hbm, ⟨1, _⟩ => ⟨S2048x8192, .i8⟩
  | .hbm, ⟨2, _⟩ => ⟨S16, .f32⟩
  | .hbm, ⟨3, _⟩ => ⟨S32x8192, .i8⟩
  | .hbm, ⟨4, _⟩ => ⟨S32x32, .f32⟩
  | .hbm, ⟨5, _⟩ => ⟨S1, .f32⟩
  | .hbm, ⟨6, _⟩ => ⟨S2048x16, .bf16⟩
  | .hbm, ⟨7, _⟩ => ⟨S16x8192, .bf16⟩
  | .hbm, ⟨8, _⟩ => ⟨S8192, .f32⟩
  | .hbm, ⟨9, _⟩ => ⟨S32x8x4, .f32⟩
  | .hbm, ⟨10, _⟩ => ⟨S8x32x4, .f32⟩
  | .hbm, ⟨11, _⟩ => ⟨S16384x2048, .f32⟩
  | .hbm, ⟨12, _⟩ => ⟨S1x8192, .f32⟩
  | .hbm, ⟨13, _⟩ => ⟨S16384x8192, .f32⟩
  | .hbm, ⟨14, _⟩ => ⟨S8x2048x8192, .f32⟩
  | .local _ .vmem, ⟨0, _⟩ => ⟨S512x2048, .f32⟩
  | .local _ .vmem, ⟨1, _⟩ => ⟨S512x2048, .f32⟩
  | .local _ .vmem, ⟨2, _⟩ => ⟨S2048x1024, .i8⟩
  | .local _ .vmem, ⟨3, _⟩ => ⟨S2048x1024, .i8⟩
  | .local _ .vmem, ⟨4, _⟩ => ⟨S32x1024, .i8⟩
  | .local _ .vmem, ⟨5, _⟩ => ⟨S32x1024, .i8⟩
  | .local _ .vmem, ⟨6, _⟩ => ⟨S1x32x4, .f32⟩
  | .local _ .vmem, ⟨7, _⟩ => ⟨S1x32x4, .f32⟩
  | .local _ .vmem, ⟨8, _⟩ => ⟨S2048x16, .bf16⟩
  | .local _ .vmem, ⟨9, _⟩ => ⟨S16x1024, .bf16⟩
  | .local _ .vmem, ⟨10, _⟩ => ⟨S16x1024, .bf16⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S8x2176x1024, .bf16⟩
  | .local _ .vmem, ⟨16, _⟩ => ⟨S512x2176, .bf16⟩
  | .local _ .smem, ⟨0, _⟩ => ⟨S16, .f32⟩
  | .local _ .smem, ⟨1, _⟩ => ⟨S1, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![32, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg1 : BitVec 32 := BitVec.ofNat 32 (i 1).val
  let c0_i32_32 : BitVec 32 := 0#32
  let c0_i32_33 : BitVec 32 := 0#32
  ![arg1.toNat, 0, 0]
def k0_off2 (i : grid0.Coords) : Fin 3 → Nat :=
  let arg1 : BitVec 32 := BitVec.ofNat 32 (i 1).val
  let c0_i32_32 : BitVec 32 := 0#32
  let c0_i32_33 : BitVec 32 := 0#32
  ![arg1.toNat, 0, 0]
def k0_off3 (i : grid0.Coords) : Fin 3 → Nat :=
  let arg1 : BitVec 32 := BitVec.ofNat 32 (i 1).val
  let c0_i32_62 : BitVec 32 := 0#32
  ![arg1.toNat, 64, 0]
def k0_off4 (i : grid0.Coords) : Fin 3 → Nat :=
  let arg1 : BitVec 32 := BitVec.ofNat 32 (i 1).val
  let c0_i32_91 : BitVec 32 := 0#32
  ![arg1.toNat, 128, 0]
def k0_off5 (i : grid0.Coords) : Fin 3 → Nat :=
  let arg1 : BitVec 32 := BitVec.ofNat 32 (i 1).val
  let c0_i32_120 : BitVec 32 := 0#32
  ![arg1.toNat, 192, 0]
def k0_off6 (i : grid0.Coords) : Fin 3 → Nat :=
  let arg1 : BitVec 32 := BitVec.ofNat 32 (i 1).val
  let c0_i32_149 : BitVec 32 := 0#32
  ![arg1.toNat, 256, 0]
def k0_off7 (i : grid0.Coords) : Fin 3 → Nat :=
  let arg1 : BitVec 32 := BitVec.ofNat 32 (i 1).val
  let c0_i32_178 : BitVec 32 := 0#32
  ![arg1.toNat, 320, 0]
def k0_off8 (i : grid0.Coords) : Fin 3 → Nat :=
  let arg1 : BitVec 32 := BitVec.ofNat 32 (i 1).val
  let c0_i32_207 : BitVec 32 := 0#32
  ![arg1.toNat, 384, 0]
def k0_off9 (i : grid0.Coords) : Fin 3 → Nat :=
  let arg1 : BitVec 32 := BitVec.ofNat 32 (i 1).val
  let c0_i32_236 : BitVec 32 := 0#32
  ![arg1.toNat, 448, 0]
def k0_off10 (i : grid0.Coords) : Fin 3 → Nat :=
  let arg1 : BitVec 32 := BitVec.ofNat 32 (i 1).val
  let c0_i32_265 : BitVec 32 := 0#32
  ![arg1.toNat, 512, 0]
def k0_off11 (i : grid0.Coords) : Fin 3 → Nat :=
  let arg1 : BitVec 32 := BitVec.ofNat 32 (i 1).val
  let c0_i32_294 : BitVec 32 := 0#32
  ![arg1.toNat, 576, 0]
def k0_off12 (i : grid0.Coords) : Fin 3 → Nat :=
  let arg1 : BitVec 32 := BitVec.ofNat 32 (i 1).val
  let c0_i32_323 : BitVec 32 := 0#32
  ![arg1.toNat, 640, 0]
def k0_off13 (i : grid0.Coords) : Fin 3 → Nat :=
  let arg1 : BitVec 32 := BitVec.ofNat 32 (i 1).val
  let c0_i32_352 : BitVec 32 := 0#32
  ![arg1.toNat, 704, 0]
def k0_off14 (i : grid0.Coords) : Fin 3 → Nat :=
  let arg1 : BitVec 32 := BitVec.ofNat 32 (i 1).val
  let c0_i32_381 : BitVec 32 := 0#32
  ![arg1.toNat, 768, 0]
def k0_off15 (i : grid0.Coords) : Fin 3 → Nat :=
  let arg1 : BitVec 32 := BitVec.ofNat 32 (i 1).val
  let c0_i32_410 : BitVec 32 := 0#32
  ![arg1.toNat, 832, 0]
def k0_off16 (i : grid0.Coords) : Fin 3 → Nat :=
  let arg1 : BitVec 32 := BitVec.ofNat 32 (i 1).val
  let c0_i32_439 : BitVec 32 := 0#32
  ![arg1.toNat, 896, 0]
def k0_off17 (i : grid0.Coords) : Fin 3 → Nat :=
  let arg1 : BitVec 32 := BitVec.ofNat 32 (i 1).val
  let c0_i32_468 : BitVec 32 := 0#32
  ![arg1.toNat, 960, 0]
def k0_off18 (i : grid0.Coords) : Fin 3 → Nat :=
  let arg1 : BitVec 32 := BitVec.ofNat 32 (i 1).val
  let c0_i32_497 : BitVec 32 := 0#32
  ![arg1.toNat, 1024, 0]
def k0_off19 (i : grid0.Coords) : Fin 3 → Nat :=
  let arg1 : BitVec 32 := BitVec.ofNat 32 (i 1).val
  let c0_i32_526 : BitVec 32 := 0#32
  ![arg1.toNat, 1088, 0]
def k0_off20 (i : grid0.Coords) : Fin 3 → Nat :=
  let arg1 : BitVec 32 := BitVec.ofNat 32 (i 1).val
  let c0_i32_555 : BitVec 32 := 0#32
  ![arg1.toNat, 1152, 0]
def k0_off21 (i : grid0.Coords) : Fin 3 → Nat :=
  let arg1 : BitVec 32 := BitVec.ofNat 32 (i 1).val
  let c0_i32_584 : BitVec 32 := 0#32
  ![arg1.toNat, 1216, 0]
def k0_off22 (i : grid0.Coords) : Fin 3 → Nat :=
  let arg1 : BitVec 32 := BitVec.ofNat 32 (i 1).val
  let c0_i32_613 : BitVec 32 := 0#32
  ![arg1.toNat, 1280, 0]
def k0_off23 (i : grid0.Coords) : Fin 3 → Nat :=
  let arg1 : BitVec 32 := BitVec.ofNat 32 (i 1).val
  let c0_i32_642 : BitVec 32 := 0#32
  ![arg1.toNat, 1344, 0]
def k0_off24 (i : grid0.Coords) : Fin 3 → Nat :=
  let arg1 : BitVec 32 := BitVec.ofNat 32 (i 1).val
  let c0_i32_671 : BitVec 32 := 0#32
  ![arg1.toNat, 1408, 0]
def k0_off25 (i : grid0.Coords) : Fin 3 → Nat :=
  let arg1 : BitVec 32 := BitVec.ofNat 32 (i 1).val
  let c0_i32_700 : BitVec 32 := 0#32
  ![arg1.toNat, 1472, 0]
def k0_off26 (i : grid0.Coords) : Fin 3 → Nat :=
  let arg1 : BitVec 32 := BitVec.ofNat 32 (i 1).val
  let c0_i32_729 : BitVec 32 := 0#32
  ![arg1.toNat, 1536, 0]
def k0_off27 (i : grid0.Coords) : Fin 3 → Nat :=
  let arg1 : BitVec 32 := BitVec.ofNat 32 (i 1).val
  let c0_i32_758 : BitVec 32 := 0#32
  ![arg1.toNat, 1600, 0]
def k0_off28 (i : grid0.Coords) : Fin 3 → Nat :=
  let arg1 : BitVec 32 := BitVec.ofNat 32 (i 1).val
  let c0_i32_787 : BitVec 32 := 0#32
  ![arg1.toNat, 1664, 0]
def k0_off29 (i : grid0.Coords) : Fin 3 → Nat :=
  let arg1 : BitVec 32 := BitVec.ofNat 32 (i 1).val
  let c0_i32_816 : BitVec 32 := 0#32
  ![arg1.toNat, 1728, 0]
def k0_off30 (i : grid0.Coords) : Fin 3 → Nat :=
  let arg1 : BitVec 32 := BitVec.ofNat 32 (i 1).val
  let c0_i32_845 : BitVec 32 := 0#32
  ![arg1.toNat, 1792, 0]
def k0_off31 (i : grid0.Coords) : Fin 3 → Nat :=
  let arg1 : BitVec 32 := BitVec.ofNat 32 (i 1).val
  let c0_i32_874 : BitVec 32 := 0#32
  ![arg1.toNat, 1856, 0]
def k0_off32 (i : grid0.Coords) : Fin 3 → Nat :=
  let arg1 : BitVec 32 := BitVec.ofNat 32 (i 1).val
  let c0_i32_903 : BitVec 32 := 0#32
  ![arg1.toNat, 1920, 0]
def k0_off33 (i : grid0.Coords) : Fin 3 → Nat :=
  let arg1 : BitVec 32 := BitVec.ofNat 32 (i 1).val
  let c0_i32_932 : BitVec 32 := 0#32
  ![arg1.toNat, 1984, 0]
def k0_off34 (i : grid0.Coords) : Fin 3 → Nat :=
  let arg1 : BitVec 32 := BitVec.ofNat 32 (i 1).val
  let c0_i32_938 : BitVec 32 := 0#32
  ![arg1.toNat, 2048, 0]
def k0_off35 (i : grid0.Coords) : Fin 3 → Nat :=
  let arg1 : BitVec 32 := BitVec.ofNat 32 (i 1).val
  let c0_i32_942 : BitVec 32 := 0#32
  ![arg1.toNat, 2064, 0]
def k0_off36 (i : grid0.Coords) : Fin 3 → Nat :=
  let arg1 : BitVec 32 := BitVec.ofNat 32 (i 1).val
  let v7 : Index := Scalar.indexCast arg1
  let c0_4 : Index := 0#32
  let c0_5 : Index := 0#32
  ![v7.toNat, 0, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![c0_i32_0.toNat, v1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  let c0_i32_2 : BitVec 32 := 0#32
  ![v1.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![c0_i32_0.toNat, v1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x1024 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S2048x16 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S8x2048x2048 : Shape := ⟨3, ![8, 2048, 2048]⟩
abbrev S2048x8192 : Shape := ⟨2, ![2048, 8192]⟩
abbrev S16 : Shape := ⟨1, ![16]⟩
abbrev S32x8192 : Shape := ⟨2, ![32, 8192]⟩
abbrev S32x32 : Shape := ⟨2, ![32, 32]⟩
abbrev S1 : Shape := ⟨1, ![1]⟩
abbrev S2048x16 : Shape := ⟨2, ![2048, 16]⟩
abbrev S16x8192 : Shape := ⟨2, ![16, 8192]⟩
abbrev S8192 : Shape := ⟨1, ![8192]⟩
abbrev S32x32x256 : Shape := ⟨3, ![32, 32, 256]⟩
abbrev S32x32x1 : Shape := ⟨3, ![32, 32, 1]⟩
abbrev S1x1 : Shape := ⟨2, ![1, 1]⟩
abbrev S_ : Shape := ⟨0, ![]⟩
abbrev S2048x8192x1 : Shape := ⟨3, ![2048, 8192, 1]⟩
abbrev S32x64x8192 : Shape := ⟨3, ![32, 64, 8192]⟩
abbrev S32x1x8192 : Shape := ⟨3, ![32, 1, 8192]⟩
abbrev S8x2048x8192 : Shape := ⟨3, ![8, 2048, 8192]⟩
abbrev S8x2048x16 : Shape := ⟨3, ![8, 2048, 16]⟩
abbrev S1x1x8192 : Shape := ⟨3, ![1, 1, 8192]⟩

abbrev nBuf : Space → Nat
  | .hbm => 48
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048x8192, .i8⟩
  | .hbm, ⟨2, _⟩ => ⟨S16, .f32⟩
  | .hbm, ⟨3, _⟩ => ⟨S32x8192, .i8⟩
  | .hbm, ⟨4, _⟩ => ⟨S32x32, .f32⟩
  | .hbm, ⟨5, _⟩ => ⟨S1, .f32⟩
  | .hbm, ⟨6, _⟩ => ⟨S2048x16, .bf16⟩
  | .hbm, ⟨7, _⟩ => ⟨S16x8192, .bf16⟩
  | .hbm, ⟨8, _⟩ => ⟨S8192, .f32⟩
  | .hbm, ⟨9, _⟩ => ⟨S8x2048x2048, .bf16⟩
  | .hbm, ⟨10, _⟩ => ⟨S32x8192, .i32⟩
  | .hbm, ⟨11, _⟩ => ⟨S32x8192, .f32⟩
  | .hbm, ⟨12, _⟩ => ⟨S32x32x256, .f32⟩
  | .hbm, ⟨13, _⟩ => ⟨S32x32x1, .f32⟩
  | .hbm, ⟨14, _⟩ => ⟨S32x32x256, .f32⟩
  | .hbm, ⟨15, _⟩ => ⟨S32x32x256, .f32⟩
  | .hbm, ⟨16, _⟩ => ⟨S32x8192, .f32⟩
  | .hbm, ⟨17, _⟩ => ⟨S1x1, .f32⟩
  | .hbm, ⟨18, _⟩ => ⟨S32x8192, .f32⟩
  | .hbm, ⟨19, _⟩ => ⟨S32x8192, .f32⟩
  | .hbm, ⟨20, _⟩ => ⟨S32x8192, .bf16⟩
  | .hbm, ⟨21, _⟩ => ⟨S16, .bf16⟩
  | .hbm, ⟨22, _⟩ => ⟨S2048x8192, .i32⟩
  | .hbm, ⟨23, _⟩ => ⟨S_, .i32⟩
  | .hbm, ⟨24, _⟩ => ⟨S2048x8192, .i32⟩
  | .hbm, ⟨25, _⟩ => ⟨S2048x8192, .i1⟩
  | .hbm, ⟨26, _⟩ => ⟨S_, .i32⟩
  | .hbm, ⟨27, _⟩ => ⟨S2048x8192, .i32⟩
  | .hbm, ⟨28, _⟩ => ⟨S2048x8192, .i32⟩
  | .hbm, ⟨29, _⟩ => ⟨S2048x8192, .i32⟩
  | .hbm, ⟨30, _⟩ => ⟨S2048x8192x1, .i32⟩
  | .hbm, ⟨31, _⟩ => ⟨S2048x8192, .bf16⟩
  | .hbm, ⟨32, _⟩ => ⟨S32x64x8192, .bf16⟩
  | .hbm, ⟨33, _⟩ => ⟨S32x1x8192, .bf16⟩
  | .hbm, ⟨34, _⟩ => ⟨S32x64x8192, .bf16⟩
  | .hbm, ⟨35, _⟩ => ⟨S32x64x8192, .bf16⟩
  | .hbm, ⟨36, _⟩ => ⟨S2048x8192, .bf16⟩
  | .hbm, ⟨37, _⟩ => ⟨S8x2048x8192, .f32⟩
  | .hbm, ⟨38, _⟩ => ⟨S8x2048x16, .f32⟩
  | .hbm, ⟨39, _⟩ => ⟨S8x2048x16, .bf16⟩
  | .hbm, ⟨40, _⟩ => ⟨S8x2048x8192, .f32⟩
  | .hbm, ⟨41, _⟩ => ⟨S_, .f32⟩
  | .hbm, ⟨42, _⟩ => ⟨S8x2048x8192, .f32⟩
  | .hbm, ⟨43, _⟩ => ⟨S8x2048x8192, .f32⟩
  | .hbm, ⟨44, _⟩ => ⟨S8x2048x8192, .f32⟩
  | .hbm, ⟨45, _⟩ => ⟨S1x1x8192, .f32⟩
  | .hbm, ⟨46, _⟩ => ⟨S8x2048x8192, .f32⟩
  | .hbm, ⟨47, _⟩ => ⟨S8x2048x8192, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Proof.Ideal.Tile.lean ====
/-
  What one grid point of the kernel computes, as functions of the blocks that it reads: the slot of dequantised weights
  (`wTile`), the scaled activations (`xTile`) and the two scratch buffers after the point.
-/
module

public import proofs.«01_k».proof.Proof.Gen.KernelIdeal.Skeleton
public import Idealize.ShloMosaic.Lib.Pointwise
public import Idealize.ShloMosaic.Lib.WholeRead
public import Idealize.ShloMosaic.Lib.VecWindow
public import Idealize.ShloMosaic.Lib.Writes
public import Idealize.ShloMosaic.Lib.Pipeline.Frame

@[expose] public section

set_option maxRecDepth 16384

noncomputable section

namespace Cert.KernelIdeal.Hand

open Cert.KernelIdeal Cert.KernelIdeal.Gen
open Idealize.ShloMosaic Idealize.ShloMosaic.Pipeline Idealize.SL.Sem

variable {F : FTy → Type} [FloatOps F]

/-- The body's first branch condition: the point is in the first row of output blocks. -/
abbrev condW (i : grid0.Coords) : Prop := k0_cond1 i = 1#1

/-- The body's second branch condition: the point is the first of its row of output blocks. -/
abbrev condX (i : grid0.Coords) : Prop :=
  (Scalar.cmpi .ne (Scalar.extui (Scalar.cmpi .eq (BitVec.ofNat 32 (i 1).val) 0#32)) 0#32) = 1#1

/-! ## One block of 64 rows -/

/-- Bit `k` (a power of two) of a code, as the kernel tests it. -/
def bitOf (c k : BitVec 32) : BitVec 1 := IntOp.cmpi .ne (IntOp.andi c k) 0#32

/-- The kernel's table lookup of a code: a tree of selections over the code's four low bits, the lowest bit first. -/
def look {α : Type} (t : Fin 16 → α) (c : BitVec 32) : α :=
  Scalar.select (bitOf c 8#32)
    (Scalar.select (bitOf c 4#32)
      (Scalar.select (bitOf c 2#32) (Scalar.select (bitOf c 1#32) (t 15) (t 14)) (Scalar.select (bitOf c 1#32) (t 13) (t 12)))
      (Scalar.select (bitOf c 2#32) (Scalar.select (bitOf c 1#32) (t 11) (t 10)) (Scalar.select (bitOf c 1#32) (t 9) (t 8))))
    (Scalar.select (bitOf c 4#32)
      (Scalar.select (bitOf c 2#32) (Scalar.select (bitOf c 1#32) (t 7) (t 6)) (Scalar.select (bitOf c 1#32) (t 5) (t 4)))
      (Scalar.select (bitOf c 2#32) (Scalar.select (bitOf c 1#32) (t 3) (t 2)) (Scalar.select (bitOf c 1#32) (t 1) (t 0))))

/-- The same tree over whole vectors. -/
def lookV (t : Fin 16 → F .f32) (c : IVec S64x1024 32) : FVec F S64x1024 .bf16 :=
  have v : Fin 16 → FVec F S64x1024 .bf16 := fun k => truncf .bf16 (broadcast S64x1024 (t k)) bitsLt_bf16_f32
  have b1 : IVec S64x1024 1 := cmpi .ne (andi c (broadcast S64x1024 1#32)) (broadcast S64x1024 0#32)
  have b2 : IVec S64x1024 1 := cmpi .ne (andi c (broadcast S64x1024 2#32)) (broadcast S64x1024 0#32)
  have b4 : IVec S64x1024 1 := cmpi .ne (andi c (broadcast S64x1024 4#32)) (broadcast S64x1024 0#32)
  have b8 : IVec S64x1024 1 := cmpi .ne (andi c (broadcast S64x1024 8#32)) (broadcast S64x1024 0#32)
  select b8
    (select b4
      (select b2 (select b1 (v 15) (v 14)) (select b1 (v 13) (v 12)))
      (select b2 (select b1 (v 11) (v 10)) (select b1 (v 9) (v 8))))
    (select b4
      (select b2 (select b1 (v 7) (v 6)) (select b1 (v 5) (v 4)))
      (select b2 (select b1 (v 3) (v 2)) (select b1 (v 1) (v 0))))

/-- Row `q` of the block maxima is a slice of them. -/
theorem slices_row {q : ℕ} (hq : q < 32) : S32x1024.Slices ![q, 0] S1x1024 := by
  refine ⟨rfl, fun a => ?_⟩
  match a with
  | ⟨0, _⟩ => show q + 1 ≤ 32; omega
  | ⟨1, _⟩ => show 0 + 1024 ≤ 1024; omega

/-- The payload of the store of block `q`: the looked-up codes of its 64 rows times row `q` of the block maxima. -/
def blkV (t : Fin 16 → F .f32) (codes : Vec F S64x1024 .i8) (a : FVec F S32x1024 .f32) (q : ℕ) (hq : q < 32) : Vec F S1x64x1024 .bf16 :=
  have s : FVec F S64x1024 .bf16 := truncf .bf16 (broadcastTo S64x1024 (shapeCast S1x1024
    (extractStridedSlice S1x1024 ![q, 0] a (slices_row hq)) shapeCasts_S1x1024_S1x1024) broadcasts_S1x1024_S64x1024) bitsLt_bf16_f32
  shapeCast S1x64x1024 (shapeCast S64x1024 (mulf (lookV t (extui 32 codes natLt_8_32)) s) shapeCasts_S64x1024_S64x1024)
    shapeCasts_S64x1024_S1x64x1024

/-- The block's payload at an index. -/
theorem blkV_apply (t : Fin 16 → F .f32) (codes : Vec F S64x1024 .i8) (a : FVec F S32x1024 .f32) (q : ℕ) (hq : q < 32)
    (u : Fin 1) (r : Fin 64) (n : Fin 1024) :
    blkV t codes a q hq (ix3 u r n)
      = FloatOps.mulf (look (fun k => FloatOps.truncf .bf16 bitsLt_bf16_f32 (t k)) ((codes (ix2 r n)).setWidth 32))
          (FloatOps.truncf .bf16 bitsLt_bf16_f32 (a (ix2 ⟨q, hq⟩ n))) := by
  pointwise [blkV, lookV]
  rfl

/-! ## A slot of dequantised weights -/

/-- The block maxima of one block of columns: the codes times their column group's scale, plus the offset. -/
def absT (x1 : Vec F S1 .f32) (x4 : Vec F S32x1024 .i8) (x5 : Vec F S1x32x4 .f32) : FVec F S32x1024 .f32 :=
  k0_pay8 (fun z => x5 (ix3 0 (z 1) 0)) (fun z => x5 (ix3 0 (z 1) 1)) (fun z => x5 (ix3 0 (z 1) 2)) (fun z => x5 (ix3 0 (z 1) 3))
    x4 (x1 (ix1 0))

/-- The weights of one block of columns with the second low-rank factor beneath them and zeros to the end:
    rows 0 to 2047 dequantised, rows 2048 to 2063 the factor, the rest zero. -/
def wTile (x0 : Vec F S16 .f32) (x1 : Vec F S1 .f32) (x3 : Vec F S2048x1024 .i8) (x4 : Vec F S32x1024 .i8) (x5 : Vec F S1x32x4 .f32)
    (x7 : Vec F S16x1024 .bf16) (k n : ℕ) (hn : n < 1024) : F .bf16 :=
  if h : k < 2048 then
    FloatOps.mulf (look (fun e => FloatOps.truncf .bf16 bitsLt_bf16_f32 (x0 (ix1 e))) ((x3 (ix2 ⟨k, h⟩ ⟨n, hn⟩)).setWidth 32))
      (FloatOps.truncf .bf16 bitsLt_bf16_f32 (absT x1 x4 x5 (ix2 ⟨k / 64, by omega⟩ ⟨n, hn⟩)))
  else if h' : k < 2064 then x7 (ix2 ⟨k - 2048, by omega⟩ ⟨n, hn⟩)
  else Scalar.ofBits .bf16 0x0000#16

/-- The weight scratch with slot `i 1` filled from the blocks. -/
def fillW (i : grid0.Coords) (ws : Vec F S8x2176x1024 .bf16) (x0 : Vec F S16 .f32) (x1 : Vec F S1 .f32) (x3 : Vec F S2048x1024 .i8)
    (x4 : Vec F S32x1024 .i8) (x5 : Vec F S1x32x4 .f32) (x7 : Vec F S16x1024 .bf16) : Vec F S8x2176x1024 .bf16 :=
  fun y => if (y 0).val = (i 1).val then wTile x0 x1 x3 x4 x5 x7 (y 1).val (y 2).val (y 2).isLt else ws y

/-- Slot `i 1` of the weight scratch, as the product reads it. -/
def slotW (i : grid0.Coords) (ws : Vec F S8x2176x1024 .bf16) : Vec F S1x2176x1024 .bf16 :=
  fun z => ws (ix3 (i 1) (z 1) (z 2))

/-- The activation scratch after its fill: the block of rows, then twice its low-rank image, then zeros. -/
def xTile (x2 : Vec F S512x2048 .f32) (x6 : Vec F S2048x16 .bf16) : Vec F S512x2176 .bf16 :=
  fun y => if h : (y 1).val < 2048 then k0_pay5 x2 (ix2 (y 0) ⟨(y 1).val, h⟩)
    else k0_pay6 x2 x6 (ix2 (y 0) ⟨(y 1).val - 2048, by have := (y 1).isLt; change _ < 2176 at this; omega⟩)

/-! ## The pieces that a point stores are those of `wTile` and `xTile` -/

section Pieces

variable {arg2 : Memref sig .tc .smem S16 .f32} (harg2 : arg2.IsWhole) {arg3 : Memref sig .tc .smem S1 .f32} (harg3 : arg3.IsWhole)
  {arg4 : Memref sig .tc .vmem S512x2048 .f32} (harg4 : arg4.IsWhole)
  {arg5 : Memref sig .tc .vmem S2048x1024 .i8} (harg5 : arg5.IsWhole) {arg6 : Memref sig .tc .vmem S32x1024 .i8} (harg6 : arg6.IsWhole)
  {arg7 : Memref sig .tc .vmem S1x32x4 .f32} (harg7 : arg7.IsWhole) {arg8 : Memref sig .tc .vmem S2048x16 .bf16} (harg8 : arg8.IsWhole)
  {arg9 : Memref sig .tc .vmem S16x1024 .bf16} (harg9 : arg9.IsWhole)
  (x0 : Vec F S16 .f32) (x1 : Vec F S1 .f32) (x2 : Vec F S512x2048 .f32) (x3 : Vec F S2048x1024 .i8) (x4 : Vec F S32x1024 .i8)
  (x5 : Vec F S1x32x4 .f32) (x6 : Vec F S2048x16 .bf16) (x7 : Vec F S16x1024 .bf16)

theorem inbT (k : Fin 16) : ∀ a, (![k.val] : Fin 1 → ℕ) a + S1.size a ≤ S16.size a := fun a => by
  match a with
  | ⟨0, _⟩ => show k.val + 1 ≤ 16; omega

theorem inbC {o : ℕ} (ho : o + 64 ≤ 2048) : ∀ a, (![o, 0] : Fin 2 → ℕ) a + S64x1024.size a ≤ S2048x1024.size a := fun a => by
  match a with
  | ⟨0, _⟩ => exact ho
  | ⟨1, _⟩ => show 0 + 1024 ≤ 1024; omega

/-- The table's entries as the body loads them. -/
def tblR : Fin 16 → F .f32 := fun k =>
  View.readAt (Elt F) arg2.view (Rect.unit (s := S16) ![k.val] S1.size (inbT k)).toLoadRect (harg2.unread x0) (Shape.Idx.first (show 0 < S1.numel by decide))

theorem tblR_eq (k : Fin 16) : tblR harg2 x0 k = x0 (ix1 k) := by
  unfold tblR
  rw [harg2.readAt_unread]
  refine congrArg x0 (funext fun a => ?_)
  match a with
  | ⟨0, _⟩ => exact Fin.ext (show k.val + 1 * 0 = k.val by omega)

/-- Rows `o` to `o + 63` of the codes as the body loads them. -/
def codeR (o : ℕ) (ho : o + 64 ≤ 2048) : Vec F S64x1024 .i8 :=
  View.readAt (Elt F) arg5.view (Rect.unit (s := S2048x1024) ![o, 0] S64x1024.size (inbC ho)).toLoadRect (harg5.unread x3)

theorem codeR_eq (o : ℕ) (ho : o + 64 ≤ 2048) (r : Fin 64) (n : Fin 1024) :
    codeR harg5 x3 o ho (ix2 r n) = x3 (ix2 ⟨o + r.val, by omega⟩ n) := by
  unfold codeR
  rw [harg5.readAt_unread]
  refine congrArg x3 (funext fun a => ?_)
  match a with
  | ⟨0, _⟩ => exact Fin.ext (show o + 1 * r.val = o + r.val by omega)
  | ⟨1, _⟩ => exact Fin.ext (show 0 + 1 * n.val = n.val by omega)

/-- The block maxima from the loads of the body. -/
def absR : FVec F S32x1024 .f32 :=
  k0_pay8
    (View.readAt (Elt F) arg7.view (Rect.unit (s := S1x32x4) ![0, 0, 0] S1x32x1.size inb_S1x32x4_S1x32x1_0_0_0).toLoadRect (harg7.unread x5))
    (View.readAt (Elt F) arg7.view (Rect.unit (s := S1x32x4) ![0, 0, 1] S1x32x1.size inb_S1x32x4_S1x32x1_0_0_1).toLoadRect (harg7.unread x5))
    (View.readAt (Elt F) arg7.view (Rect.unit (s := S1x32x4) ![0, 0, 2] S1x32x1.size inb_S1x32x4_S1x32x1_0_0_2).toLoadRect (harg7.unread x5))
    (View.readAt (Elt F) arg7.view (Rect.unit (s := S1x32x4) ![0, 0, 3] S1x32x1.size inb_S1x32x4_S1x32x1_0_0_3).toLoadRect (harg7.unread x5))
    (View.readAt (Elt F) arg6.view (Rect.unit (s := S32x1024) ![0, 0] S32x1024.size inb_S32x1024_S32x1024_0_0).toLoadRect (harg6.unread x4))
    (View.readAt (Elt F) arg3.view (Rect.unit (s := S1) ![0] S1.size inb_S1_S1_0).toLoadRect (harg3.unread x1) (Shape.Idx.first (show 0 < S1.numel by decide)))

theorem col_eq (g : ℕ) (hg : g < 4) (inb : ∀ a, (![0, 0, g] : Fin 3 → ℕ) a + S1x32x1.size a ≤ S1x32x4.size a) :
    View.readAt (Elt F) arg7.view (Rect.unit (s := S1x32x4) ![0, 0, g] S1x32x1.size inb).toLoadRect (harg7.unread x5)
      = fun z => x5 (ix3 0 (z 1) ⟨g, hg⟩) := by
  funext z
  rw [harg7.readAt_unread]
  refine congrArg x5 (funext fun a => ?_)
  match a with
  | ⟨0, _⟩ => exact Subsingleton.elim (α := Fin 1) _ _
  | ⟨1, _⟩ => exact Fin.ext (show 0 + 1 * (z 1).val = (z 1).val by omega)
  | ⟨2, _⟩ => exact Fin.ext (show g + 1 * (z 2).val = g by have := (z 2).isLt; change _ < 1 at this; omega)

theorem absR_eq : absR harg3 harg6 harg7 x1 x4 x5 = absT x1 x4 x5 := by
  unfold absR absT
  rw [col_eq harg7 x5 0 (by decide), col_eq harg7 x5 1 (by decide), col_eq harg7 x5 2 (by decide), col_eq harg7 x5 3 (by decide),
    View.readAt_full, harg6.read_unread, harg3.readAt_unread]
  refine congrArg (fun o => k0_pay8 _ _ _ _ x4 (x1 o)) (funext fun a => ?_)
  match a with
  | ⟨0, _⟩ => exact Subsingleton.elim (α := Fin 1) _ _

/-- What a slot's pieces agree with: `wTile` at the row and column, whatever the slot. -/
def slotFn : S8x2176x1024.Idx → Elt F .bf16 := fun y => wTile x0 x1 x3 x4 x5 x7 (y 1).val (y 2).val (y 2).isLt

theorem wTile_congr {k k' n n' : ℕ} (hk : k = k') (hn : n = n') (h : n < 1024) (h' : n' < 1024) :
    wTile x0 x1 x3 x4 x5 x7 k n h = wTile x0 x1 x3 x4 x5 x7 k' n' h' := by
  subst hk; subst hn; rfl

/-- `slotFn` where a piece of a slot places an index. -/
theorem slotFn_emb {j o r : ℕ} (inb : ∀ a, (![j, o, 0] : Fin 3 → ℕ) a + (![1, r, 1024] : Fin 3 → ℕ) a ≤ S8x2176x1024.size a)
    (x : (⟨3, ![1, r, 1024]⟩ : Shape).Idx) :
    slotFn x0 x1 x3 x4 x5 x7 ((Rect.unit (s := S8x2176x1024) ![j, o, 0] ![1, r, 1024] inb).emb x)
      = wTile x0 x1 x3 x4 x5 x7 (o + (x 1).val) (x 2).val (x 2).isLt :=
  wTile_congr x0 x1 x3 x4 x5 x7 (show o + 1 * (x 1).val = _ by omega) (show 0 + 1 * (x 2).val = _ by omega) _ _

/-- The store of a block of 64 rows puts `wTile` there. -/
theorem piece_blk {i : grid0.Coords} {o : ℕ} (ho : o + 64 ≤ 2048) (hm : o % 64 = 0)
    {inb : ∀ a, (![(i 1).val, o, 0] : Fin 3 → ℕ) a + S1x64x1024.size a ≤ S8x2176x1024.size a}
    {w : Vec F S1x64x1024 .bf16}
    (hw : w = blkV (tblR harg2 x0) (codeR harg5 x3 o ho) (absR harg3 harg6 harg7 x1 x4 x5) (o / 64) (by omega)) :
    ∀ x : S1x64x1024.Idx, w x = slotFn x0 x1 x3 x4 x5 x7 ((Rect.unit (s := S8x2176x1024) ![(i 1).val, o, 0] S1x64x1024.size inb).emb x) := by
  intro x
  refine Eq.trans ?_ (slotFn_emb x0 x1 x3 x4 x5 x7 inb x).symm
  obtain ⟨u, r, n, rfl⟩ : ∃ (u : Fin 1) (r : Fin 64) (n : Fin 1024), x = ix3 u r n := ⟨x 0, x 1, x 2, eq_ix3 x⟩
  show _ = wTile x0 x1 x3 x4 x5 x7 (o + r.val) n.val n.isLt
  rw [hw, blkV_apply, codeR_eq, absR_eq]
  simp only [tblR_eq]
  unfold wTile
  rw [dif_pos (by omega)]
  congr 4
  exact Fin.ext (by show o / 64 = (o + r.val) / 64; omega)

/-- The store beneath the weights puts the low-rank factor there. -/
theorem piece_lora {i : grid0.Coords}
    {inb : ∀ a, (![(i 1).val, 2048, 0] : Fin 3 → ℕ) a + S1x16x1024.size a ≤ S8x2176x1024.size a} {w : Vec F S1x16x1024 .bf16}
    (hw : w = k0_pay2 (View.readAt (Elt F) arg9.view (Rect.unit (s := S16x1024) ![0, 0] S16x1024.size inb_S16x1024_S16x1024_0_0).toLoadRect (harg9.unread x7))) :
    ∀ x : S1x16x1024.Idx, w x = slotFn x0 x1 x3 x4 x5 x7 ((Rect.unit (s := S8x2176x1024) ![(i 1).val, 2048, 0] S1x16x1024.size inb).emb x) := by
  intro x
  refine Eq.trans ?_ (slotFn_emb x0 x1 x3 x4 x5 x7 inb x).symm
  obtain ⟨u, r, n, rfl⟩ : ∃ (u : Fin 1) (r : Fin 16) (n : Fin 1024), x = ix3 u r n := ⟨x 0, x 1, x 2, eq_ix3 x⟩
  show _ = wTile x0 x1 x3 x4 x5 x7 (2048 + r.val) n.val n.isLt
  rw [hw, View.readAt_full, harg9.read_unread]
  unfold wTile
  rw [dif_neg (by omega), dif_pos (by omega)]
  pointwise [k0_pay2]

/-- The last store of the fill puts zeros there. -/
theorem piece_zero {i : grid0.Coords}
    {inb : ∀ a, (![(i 1).val, 2064, 0] : Fin 3 → ℕ) a + S1x112x1024.size a ≤ S8x2176x1024.size a} {w : Vec F S1x112x1024 .bf16}
    (hw : w = k0_pay3) :
    ∀ x : S1x112x1024.Idx, w x = slotFn x0 x1 x3 x4 x5 x7 ((Rect.unit (s := S8x2176x1024) ![(i 1).val, 2064, 0] S1x112x1024.size inb).emb x) := by
  intro x
  refine Eq.trans ?_ (slotFn_emb x0 x1 x3 x4 x5 x7 inb x).symm
  obtain ⟨u, r, n, rfl⟩ : ∃ (u : Fin 1) (r : Fin 112) (n : Fin 1024), x = ix3 u r n := ⟨x 0, x 1, x 2, eq_ix3 x⟩
  show _ = wTile x0 x1 x3 x4 x5 x7 (2064 + r.val) n.val n.isLt
  rw [hw]
  unfold wTile
  rw [dif_neg (by omega), dif_neg (by omega)]
  pointwise [k0_pay3]

/-! ### The fill of a slot -/

/-- The list `L` of stores fills exactly the rows below `o` of slot `j` with `G`. -/
def Filled (G : S8x2176x1024.Idx → F .bf16) (j o : ℕ) (L : List (View.Piece (Elt F) S8x2176x1024 .bf16)) : Prop :=
  (∀ p ∈ L, ∀ x, p.2 x = G (p.1.emb x))
    ∧ (∀ y : S8x2176x1024.Idx, (y 0).val = j → (y 1).val < o → ∃ p ∈ L, y ∈ p.1.set)
    ∧ (∀ y : S8x2176x1024.Idx, (y 0).val ≠ j → ∀ p ∈ L, y ∉ p.1.set)

theorem Filled.nil (G : S8x2176x1024.Idx → F .bf16) (j : ℕ) : Filled G j 0 [] :=
  ⟨by simp, fun y _ h => absurd h (Nat.not_lt_zero _), by simp⟩

/-- One more store of `r` rows. -/
theorem Filled.cons {G : S8x2176x1024.Idx → F .bf16} {j o o' r : ℕ} {L : List (View.Piece (Elt F) S8x2176x1024 .bf16)}
    (e : o' = o + r) {inb : ∀ a, (![j, o, 0] : Fin 3 → ℕ) a + (![1, r, 1024] : Fin 3 → ℕ) a ≤ S8x2176x1024.size a}
    {w : (⟨3, ![1, r, 1024]⟩ : Shape).Idx → F .bf16} (h : Filled G j o L)
    (hw : ∀ x : (⟨3, ![1, r, 1024]⟩ : Shape).Idx, w x = G ((Rect.unit (s := S8x2176x1024) ![j, o, 0] ![1, r, 1024] inb).emb x)) :
    Filled G j o' ((⟨Rect.unit (s := S8x2176x1024) ![j, o, 0] ![1, r, 1024] inb, w⟩ : View.Piece (Elt F) S8x2176x1024 .bf16) :: L) := by
  subst e
  refine ⟨List.forall_mem_cons.mpr ⟨hw, h.1⟩, fun y hy hlt => ?_, fun y hy => List.forall_mem_cons.mpr ⟨?_, h.2.2 y hy⟩⟩
  · by_cases ho : (y 1).val < o
    · obtain ⟨p, hp, hm⟩ := h.2.1 y hy ho
      exact ⟨p, List.mem_cons_of_mem _ hp, hm⟩
    · refine ⟨_, List.mem_cons_self, ?_⟩
      rw [Rect.mem_set_unit]
      intro a
      match a with
      | ⟨0, _⟩ => exact ⟨by show j ≤ (y 0).val; omega, by show (y 0).val < j + 1; omega⟩
      | ⟨1, _⟩ => exact ⟨by show o ≤ (y 1).val; omega, by show (y 1).val < o + r; omega⟩
      | ⟨2, _⟩ => exact ⟨Nat.zero_le _, by show (y 2).val < 0 + 1024; have := (y 2).isLt; change _ < 1024 at this; omega⟩
  · intro hm
    have h0 := (Rect.mem_set_unit (inb := inb)).mp hm 0
    have e1 : j ≤ (y 0).val := h0.1
    have e2 : (y 0).val < j + 1 := h0.2
    omega

/-- One more block of 64 rows. -/
theorem Filled.blk {i : grid0.Coords} {o o' : ℕ} {L : List (View.Piece (Elt F) S8x2176x1024 .bf16)}
    {inb : ∀ a, (![(i 1).val, o, 0] : Fin 3 → ℕ) a + S1x64x1024.size a ≤ S8x2176x1024.size a} {w : Vec F S1x64x1024 .bf16}
    (h : Filled (slotFn x0 x1 x3 x4 x5 x7) (i 1).val o L) (e : o' = o + 64) (ho : o + 64 ≤ 2048) (hm : o % 64 = 0)
    (hw : w = blkV (tblR harg2 x0) (codeR harg5 x3 o ho) (absR harg3 harg6 harg7 x1 x4 x5) (o / 64) (by omega)) :
    Filled (slotFn x0 x1 x3 x4 x5 x7) (i 1).val o'
      ((⟨Rect.unit (s := S8x2176x1024) ![(i 1).val, o, 0] S1x64x1024.size inb, w⟩ : View.Piece (Elt F) S8x2176x1024 .bf16) :: L) :=
  h.cons e (piece_blk harg2 harg3 harg5 harg6 harg7 x0 x1 x3 x4 x5 x7 ho hm hw)

/-- The low-rank factor beneath them. -/
theorem Filled.lora {i : grid0.Coords} {L : List (View.Piece (Elt F) S8x2176x1024 .bf16)}
    {inb : ∀ a, (![(i 1).val, 2048, 0] : Fin 3 → ℕ) a + S1x16x1024.size a ≤ S8x2176x1024.size a} {w : Vec F S1x16x1024 .bf16}
    (h : Filled (slotFn x0 x1 x3 x4 x5 x7) (i 1).val 2048 L)
    (hw : w = k0_pay2 (View.readAt (Elt F) arg9.view (Rect.unit (s := S16x1024) ![0, 0] S16x1024.size inb_S16x1024_S16x1024_0_0).toLoadRect (harg9.unread x7))) :
    Filled (slotFn x0 x1 x3 x4 x5 x7) (i 1).val 2064
      ((⟨Rect.unit (s := S8x2176x1024) ![(i 1).val, 2048, 0] S1x16x1024.size inb, w⟩ : View.Piece (Elt F) S8x2176x1024 .bf16) :: L) :=
  h.cons rfl (piece_lora harg9 x0 x1 x3 x4 x5 x7 hw)

/-- The zeros to the end of the slot. -/
theorem Filled.zero {i : grid0.Coords} {L : List (View.Piece (Elt F) S8x2176x1024 .bf16)}
    {inb : ∀ a, (![(i 1).val, 2064, 0] : Fin 3 → ℕ) a + S1x112x1024.size a ≤ S8x2176x1024.size a} {w : Vec F S1x112x1024 .bf16}
    (h : Filled (slotFn x0 x1 x3 x4 x5 x7) (i 1).val 2064 L) (hw : w = k0_pay3) :
    Filled (slotFn x0 x1 x3 x4 x5 x7) (i 1).val 2176
      ((⟨Rect.unit (s := S8x2176x1024) ![(i 1).val, 2064, 0] S1x112x1024.size inb, w⟩ : View.Piece (Elt F) S8x2176x1024 .bf16) :: L) :=
  h.cons rfl (piece_zero x0 x1 x3 x4 x5 x7 hw)

variable {arg12 : Memref sig .tc .vmem S8x2176x1024 .bf16} (harg12 : arg12.IsWhole)
  {arg13 : Memref sig .tc .vmem S512x2176 .bf16} (harg13 : arg13.IsWhole)

/-- What the weight scratch reads after the fill of slot `i 1`. -/
theorem Filled.read {i : grid0.Coords} {L : List (View.Piece (Elt F) S8x2176x1024 .bf16)} (ws : Vec F S8x2176x1024 .bf16)
    (h : Filled (slotFn x0 x1 x3 x4 x5 x7) (i 1).val 2176 L) :
    arg12.view.read (Elt F) (arg12.view.writes (Elt F) (harg12.unread ws) L) = fillW i ws x0 x1 x3 x4 x5 x7 := by
  funext y
  unfold fillW
  by_cases hy : (y 0).val = (i 1).val
  · rw [if_pos hy]
    exact View.read_writes_apply_of_pieces _ _ (slotFn x0 x1 x3 x4 x5 x7) L h.1 y (h.2.1 y hy (y 1).isLt)
  · rw [if_neg hy, View.read_writes_apply_of_forall_not_mem _ _ _ _ (h.2.2 y hy), harg12.read_unread]

/-- What the product loads of the weight scratch: slot `i 1`. -/
theorem idx_slot (i : grid0.Coords) (z : S1x2176x1024.Idx) :
    (Rect.unit (s := S8x2176x1024) (k0_off36 i) S1x2176x1024.size (k0_off36_inb i)).toLoadRect.idx z = ix3 (i 1) (z 1) (z 2) := by
  have h0 : (z 0).val < 1 := (z 0).isLt
  have e := k0_off36_eq i
  funext a
  match a with
  | ⟨0, _⟩ => exact Fin.ext (by show k0_off36 i 0 + 1 * (z 0).val = (i 1).val; rw [e]; show (i 1).val + _ = _; omega)
  | ⟨1, _⟩ => exact Fin.ext (by show k0_off36 i 1 + 1 * (z 1).val = (z 1).val; rw [e]; show 0 + _ = _; omega)
  | ⟨2, _⟩ => exact Fin.ext (by show k0_off36 i 2 + 1 * (z 2).val = (z 2).val; rw [e]; show 0 + _ = _; omega)

/-- The product's load where the slot was filled before. -/
theorem slot_read (i : grid0.Coords) (ws : Vec F S8x2176x1024 .bf16) :
    View.readAt (Elt F) arg12.view (Rect.unit (s := S8x2176x1024) (k0_off36 i) S1x2176x1024.size (k0_off36_inb i)).toLoadRect (harg12.unread ws)
      = slotW i ws := by
  funext z
  rw [harg12.readAt_unread]
  exact congrArg ws (idx_slot i z)

/-- The product's load where the point has just filled the slot. -/
theorem Filled.slot {i : grid0.Coords} {L : List (View.Piece (Elt F) S8x2176x1024 .bf16)} (ws : Vec F S8x2176x1024 .bf16)
    (h : Filled (slotFn x0 x1 x3 x4 x5 x7) (i 1).val 2176 L) :
    arg12.view.readCov L (Rect.unit (s := S8x2176x1024) (k0_off36 i) S1x2176x1024.size (k0_off36_inb i)).toLoadRect
      = slotW i (fillW i ws x0 x1 x3 x4 x5 x7) := by
  funext z
  unfold View.readCov
  rw [View.readAt_apply, idx_slot]
  refine (View.read_writes_apply_of_pieces _ _ (slotFn x0 x1 x3 x4 x5 x7) L h.1 _ (h.2.1 _ rfl (z 1).isLt)).trans ?_
  exact (if_pos rfl).symm

/-! ### The fill of the activations -/

/-- The two stores of the activations' fill read `xTile` over any contents. -/
theorem read_xTile (f : arg13.view.ty.Contents (Elt F)) {inb5 : ∀ a, (![0, 0] : Fin 2 → ℕ) a + S512x2048.size a ≤ S512x2176.size a}
    {inb6 : ∀ a, (![0, 2048] : Fin 2 → ℕ) a + S512x128.size a ≤ S512x2176.size a} :
    arg13.view.read (Elt F) (arg13.view.writes (Elt F) f
        [⟨Rect.unit (s := S512x2176) ![0, 2048] S512x128.size inb6, k0_pay6 x2 x6⟩,
          ⟨Rect.unit (s := S512x2176) ![0, 0] S512x2048.size inb5, k0_pay5 x2⟩]) = xTile x2 x6 := by
  funext y
  refine View.read_writes_apply_of_pieces _ _ (xTile x2 x6) _ (List.forall_mem_cons.mpr ⟨fun x => ?_, List.forall_mem_cons.mpr ⟨fun x => ?_, by simp⟩⟩) y ?_
  · obtain ⟨r, n, rfl⟩ : ∃ (r : Fin 512) (n : Fin 128), x = ix2 r n := ⟨x 0, x 1, eq_ix2 x⟩
    have hn : ¬ (2048 + 1 * n.val < 2048) := by omega
    refine Eq.trans ?_ (dif_neg hn).symm
    refine congrArg (k0_pay6 x2 x6) (congrArg₂ ix2 (Fin.ext ?_) (Fin.ext ?_))
    · show r.val = 0 + 1 * r.val; omega
    · show n.val = 2048 + 1 * n.val - 2048; omega
  · obtain ⟨r, n, rfl⟩ : ∃ (r : Fin 512) (n : Fin 2048), x = ix2 r n := ⟨x 0, x 1, eq_ix2 x⟩
    have hn : (0 + 1 * n.val < 2048) := by omega
    refine Eq.trans ?_ (dif_pos hn).symm
    refine congrArg (k0_pay5 x2) (congrArg₂ ix2 (Fin.ext ?_) (Fin.ext ?_))
    · show r.val = 0 + 1 * r.val; omega
    · show n.val = 0 + 1 * n.val; omega
  · have h0 : (y 0).val < 512 := (y 0).isLt
    have h1 : (y 1).val < 2176 := (y 1).isLt
    by_cases h : (y 1).val < 2048
    · refine ⟨_, List.mem_cons_of_mem _ List.mem_cons_self, ?_⟩
      rw [Rect.mem_set_unit]
      intro a
      match a with
      | ⟨0, _⟩ => exact ⟨Nat.zero_le _, by show (y 0).val < 0 + 512; omega⟩
      | ⟨1, _⟩ => exact ⟨Nat.zero_le _, by show (y 1).val < 0 + 2048; omega⟩
    · refine ⟨_, List.mem_cons_self, ?_⟩
      rw [Rect.mem_set_unit]
      intro a
      match a with
      | ⟨0, _⟩ => exact ⟨Nat.zero_le _, by show (y 0).val < 0 + 512; omega⟩
      | ⟨1, _⟩ => exact ⟨by show 2048 ≤ (y 1).val; omega, by show (y 1).val < 2048 + 128; omega⟩

/-- The same with the payloads as the run states them. -/
theorem xread_fill (f : arg13.view.ty.Contents (Elt F)) {inb5 : ∀ a, (![0, 0] : Fin 2 → ℕ) a + S512x2048.size a ≤ S512x2176.size a}
    {inb6 : ∀ a, (![0, 2048] : Fin 2 → ℕ) a + S512x128.size a ≤ S512x2176.size a} :
    arg13.view.read (Elt F) (arg13.view.writes (Elt F) f
        [⟨Rect.unit (s := S512x2176) ![0, 2048] S512x128.size inb6,
            k0_pay6 (View.readAt (Elt F) arg4.view (Rect.unit (s := S512x2048) ![0, 0] S512x2048.size inb_S512x2048_S512x2048_0_0).toLoadRect (harg4.unread x2))
              (View.readAt (Elt F) arg8.view (Rect.unit (s := S2048x16) ![0, 0] S2048x16.size inb_S2048x16_S2048x16_0_0).toLoadRect (harg8.unread x6))⟩,
          ⟨Rect.unit (s := S512x2176) ![0, 0] S512x2048.size inb5,
            k0_pay5 (View.readAt (Elt F) arg4.view (Rect.unit (s := S512x2048) ![0, 0] S512x2048.size inb_S512x2048_S512x2048_0_0).toLoadRect (harg4.unread x2))⟩]) = xTile x2 x6 := by
  rw [View.readAt_full, View.readAt_full, harg4.read_unread, harg8.read_unread]
  exact read_xTile x2 x6 f

/-- The product's load of the activations where the point has just filled them. -/
theorem xload_fill {inb5 : ∀ a, (![0, 0] : Fin 2 → ℕ) a + S512x2048.size a ≤ S512x2176.size a}
    {inb6 : ∀ a, (![0, 2048] : Fin 2 → ℕ) a + S512x128.size a ≤ S512x2176.size a} :
    arg13.view.readCov
        [⟨Rect.unit (s := S512x2176) ![0, 2048] S512x128.size inb6,
            k0_pay6 (View.readAt (Elt F) arg4.view (Rect.unit (s := S512x2048) ![0, 0] S512x2048.size inb_S512x2048_S512x2048_0_0).toLoadRect (harg4.unread x2))
              (View.readAt (Elt F) arg8.view (Rect.unit (s := S2048x16) ![0, 0] S2048x16.size inb_S2048x16_S2048x16_0_0).toLoadRect (harg8.unread x6))⟩,
          ⟨Rect.unit (s := S512x2176) ![0, 0] S512x2048.size inb5,
            k0_pay5 (View.readAt (Elt F) arg4.view (Rect.unit (s := S512x2048) ![0, 0] S512x2048.size inb_S512x2048_S512x2048_0_0).toLoadRect (harg4.unread x2))⟩]
        (Rect.unit (s := S512x2176) ![0, 0] S512x2176.size inb_S512x2176_S512x2176_0_0).toLoadRect = xTile x2 x6 := by
  unfold View.readCov
  rw [View.readAt_full]
  exact xread_fill harg4 harg8 x2 x6 _

/-- The product's load of the activations where they were filled before. -/
theorem xload (xs : Vec F S512x2176 .bf16) :
    View.readAt (Elt F) arg13.view (Rect.unit (s := S512x2176) ![0, 0] S512x2176.size inb_S512x2176_S512x2176_0_0).toLoadRect (harg13.unread xs) = xs := by
  rw [View.readAt_full, harg13.read_unread]

/-- The product's load of the bias. -/
theorem bload {arg10 : Memref sig .tc .vmem S1x1024 .f32} (harg10 : arg10.IsWhole) (x8 : Vec F S1x1024 .f32) :
    View.readAt (Elt F) arg10.view (Rect.unit (s := S1x1024) ![0, 0] S1x1024.size inb_S1x1024_S1x1024_0_0).toLoadRect (harg10.unread x8) = x8 := by
  rw [View.readAt_full, harg10.read_unread]

end Pieces

end Cert.KernelIdeal.Hand

end
-- ==== Proof.Ideal.State.lean ====
/-
  What the two scratch buffers hold between grid points, and what each point leaves in its output block.
-/
module

public import proofs.«01_k».proof.Proof.Gen.KernelIdeal.Frame
public import proofs.«01_k».proof.Proof.Ideal.Tile

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions in closed form -/

theorem coords0 (t : Fin cfg0.N) : (grid0.coords t 0).val = t.val / 8 := by
  have ht : t.val < 256 := Nat.lt_of_lt_of_eq t.isLt N_0
  have e0 : (grid0.coords t 0).val = t.val / 8 % 32 := Pipeline.Grid.coords_val t 0 (by decide) rfl
  omega

theorem coords1 (t : Fin cfg0.N) : (grid0.coords t 1).val = t.val % 8 := by
  have e1 : (grid0.coords t 1).val = t.val / 1 % 8 := Pipeline.Grid.coords_val t 1 (by decide) rfl
  omega

/-- The weights are filled at the first eight points. -/
theorem condW_iff (t : Fin cfg0.N) : condW (grid0.coords t) ↔ t.val < 8 := by
  have ht : t.val < 256 := Nat.lt_of_lt_of_eq t.isLt N_0
  have e0 : (grid0.coords t 0).val = t.val / 8 % 32 := Pipeline.Grid.coords_val t 0 (by decide) rfl
  have e1 : (grid0.coords t 1).val = t.val / 1 % 8 := Pipeline.Grid.coords_val t 1 (by decide) rfl
  simp only [condW, k0_cond1, e0, e1]
  word_cmp

/-- The activations are filled at every eighth point. -/
theorem condX_iff (t : Fin cfg0.N) : condX (grid0.coords t) ↔ t.val % 8 = 0 := by
  have ht : t.val < 256 := Nat.lt_of_lt_of_eq t.isLt N_0
  have e0 : (grid0.coords t 0).val = t.val / 8 % 32 := Pipeline.Grid.coords_val t 0 (by decide) rfl
  have e1 : (grid0.coords t 1).val = t.val / 1 % 8 := Pipeline.Grid.coords_val t 1 (by decide) rfl
  simp only [condX, e0, e1]
  word_cmp

/-! ## The scratch buffers between points -/

/-- The point that fills slot `j` of the weights. -/
def ptW (j : Fin 8) : Fin cfg0.N := ⟨j.val, Nat.lt_of_lt_of_eq (Nat.lt_of_lt_of_le j.isLt (by decide)) N_0.symm⟩

/-- The point that fills the activations that point `t` multiplies. -/
def ptX (t : Fin cfg0.N) : Fin cfg0.N := ⟨t.val / 8 * 8, lt_of_le_of_lt (Nat.div_mul_le_self _ _) t.isLt⟩

/-- The dequantised weights of slot `j` at a row and a column of it. -/
def wAt (c : Dev nD) (j : Fin 8) (k n : ℕ) (hn : n < 1024) : F .bf16 :=
  wTile (iblk m c 0 (ptW j)) (iblk m c 1 (ptW j)) (iblk m c 3 (ptW j)) (iblk m c 4 (ptW j)) (iblk m c 5 (ptW j)) (iblk m c 7 (ptW j)) k n hn

/-- Slot `t % 8`, which point `t` multiplies by. -/
def wSlot (c : Dev nD) (t : Fin cfg0.N) : Vec F S1x2176x1024 .bf16 :=
  fun z => wAt m c (grid0.coords t 1) (z 1).val (z 2).val (z 2).isLt

/-- The activations that point `t` multiplies. -/
def xAt (c : Dev nD) (t : Fin cfg0.N) : Vec F S512x2176 .bf16 := xTile (iblk m c 2 (ptX t)) (iblk m c 6 (ptX t))

/-- What point `t` leaves in its output block. -/
def outT (c : Dev nD) (t : Fin cfg0.N) : Vec F S512x1024 .f32 := k0_pay7 (xAt m c t) (wSlot m c t) (iblk m c 8 t)

/-- The slots below `k` hold their weights. -/
def GoodW (c : Dev nD) (k : ℕ) (ws : Vec F S8x2176x1024 .bf16) : Prop :=
  ∀ y : S8x2176x1024.Idx, (y 0).val < k → ws y = wAt m c (y 0) (y 1).val (y 2).val (y 2).isLt

/-- The activations are those of the current row of blocks, unless a new row begins. -/
def GoodX (c : Dev nD) (k : ℕ) (xs : Vec F S512x2176 .bf16) : Prop :=
  ∀ t : Fin cfg0.N, t.val = k → t.val % 8 ≠ 0 → xs = xAt m c t

theorem goodW_fill (c : Dev nD) (t : Fin cfg0.N) (ht : t.val < 8) {ws : Vec F S8x2176x1024 .bf16} (h : GoodW m c t.val ws) :
    GoodW m c (t.val + 1) (fillW (grid0.coords t) ws (iblk m c 0 t) (iblk m c 1 t) (iblk m c 3 t) (iblk m c 4 t) (iblk m c 5 t) (iblk m c 7 t)) := by
  have e1 := coords1 t
  intro y hy
  unfold fillW
  by_cases h0 : (y 0).val = (grid0.coords t 1).val
  · rw [if_pos h0]
    have e : ptW (y 0) = t := Fin.ext (by show (y 0).val = t.val; omega)
    unfold wAt
    rw [e]
  · rw [if_neg h0]
    exact h y (by omega)

theorem slot_good (c : Dev nD) (t : Fin cfg0.N) {k : ℕ} (hk : t.val % 8 < k) {ws : Vec F S8x2176x1024 .bf16} (h : GoodW m c k ws) :
    slotW (grid0.coords t) ws = wSlot m c t := by
  have e1 := coords1 t
  funext z
  exact h (ix3 (grid0.coords t 1) (z 1) (z 2)) (by show (grid0.coords t 1).val < k; omega)

theorem goodW_keep (c : Dev nD) (t : Fin cfg0.N) (ht : ¬ t.val < 8) {ws : Vec F S8x2176x1024 .bf16} (h : GoodW m c t.val ws) :
    GoodW m c (t.val + 1) ws := by
  intro y hy
  have : (y 0).val < 8 := (y 0).isLt
  exact h y (by omega)

theorem xAt_fill (c : Dev nD) (t : Fin cfg0.N) (ht : t.val % 8 = 0) : xTile (iblk m c 2 t) (iblk m c 6 t) = xAt m c t := by
  have e : ptX t = t := Fin.ext (by show t.val / 8 * 8 = t.val; omega)
  unfold xAt
  rw [e]

theorem goodX_next (c : Dev nD) (t : Fin cfg0.N) : GoodX m c (t.val + 1) (xAt m c t) := by
  intro t' ht' hn
  have e : ptX t' = ptX t := Fin.ext (by show t'.val / 8 * 8 = t.val / 8 * 8; omega)
  unfold xAt
  rw [e]

end Cert.KernelIdeal.Hand

end
-- ==== Proof.Ideal.RunNN.lean ====
module

public import proofs.«01_k».proof.Proof.Gen.KernelIdeal.Frame
public import proofs.«01_k».proof.Proof.Gen.KernelIdeal.Skeleton
public import Idealize.ShloMosaic.Lib.Tactic
public import proofs.«01_k».proof.Proof.Ideal.Tile

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
set_option sl_exec.closedPieces true in
/-- The point's run where the slot of weights is filled already and the activations are filled already: the output block is the product of the activations with the slot, plus the bias. -/
theorem runNN (c : Dev nD) (i : grid0.Coords) (arg2 : Memref sig .tc .smem S16 .f32) (harg2 : arg2.IsWhole) (arg3 : Memref sig .tc .smem S1 .f32) (harg3 : arg3.IsWhole)
    (arg4 : Memref sig .tc .vmem S512x2048 .f32) (harg4 : arg4.IsWhole) (arg5 : Memref sig .tc .vmem S2048x1024 .i8) (harg5 : arg5.IsWhole)
    (arg6 : Memref sig .tc .vmem S32x1024 .i8) (harg6 : arg6.IsWhole) (arg7 : Memref sig .tc .vmem S1x32x4 .f32) (harg7 : arg7.IsWhole)
    (arg8 : Memref sig .tc .vmem S2048x16 .bf16) (harg8 : arg8.IsWhole) (arg9 : Memref sig .tc .vmem S16x1024 .bf16) (harg9 : arg9.IsWhole)
    (arg10 : Memref sig .tc .vmem S1x1024 .f32) (harg10 : arg10.IsWhole) (arg11 : Memref sig .tc .vmem S512x1024 .f32) (harg11 : arg11.IsWhole)
    (arg12 : Memref sig .tc .vmem S8x2176x1024 .bf16) (harg12 : arg12.IsWhole) (arg13 : Memref sig .tc .vmem S512x2176 .bf16) (harg13 : arg13.IsWhole)
    (hc0 : ¬condW i) (hc2 : ¬condX i)
    (x0 : Vec F S16 .f32) (x1 : Vec F S1 .f32) (x2 : Vec F S512x2048 .f32) (x3 : Vec F S2048x1024 .i8) (x4 : Vec F S32x1024 .i8)
    (x5 : Vec F S1x32x4 .f32) (x6 : Vec F S2048x16 .bf16) (x7 : Vec F S16x1024 .bf16) (x8 : Vec F S1x1024 .f32) (ws : Vec F S8x2176x1024 .bf16) (xs : Vec F S512x2176 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare ws ∗ owns (c : Thread nD τ) arg13 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (k0_pay7 xs (slotW i ws) x8) ∗ owns (c : Thread nD τ) arg12 fullShare ws ∗ owns (c : Thread nD τ) arg13 fullShare xs) -∗ K ⟨⟩))
          ⊢ wp frame (wpE (defs₀ (F := F)) Variants.none c none) E (cc0_qlora_nf4_linear i arg2 harg2 arg3 harg3 arg4 harg4 arg5 harg5 arg6 harg6 arg7 harg7 arg8 harg8 arg9 harg9 arg10 harg10 arg11 harg11 arg12 harg12 arg13 harg13) K := by
    intro E K
    simp only [cc0_qlora_nf4_linear_eq_skeleton]; unfold cc0_qlora_nf4_linear_skel
    simp only [k0_part67_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    obtain rfl := harg12.eq_unread hfs0; obtain rfl := harg13.eq_unread hfs1
    sl_exec (disch := first | sl_exact hc0 | sl_exact hc2)
    sl_step
    iapply Hk
    isplitl [H0]
    · iexists _
      isplitr
      swap
      · iexact H0
      ipureintro; exact harg2.read_unread x0
    isplitl [H1]
    · iexists _
      isplitr
      swap
      · iexact H1
      ipureintro; exact harg3.read_unread x1
    isplitl [H2]
    · iexists _
      isplitr
      swap
      · iexact H2
      ipureintro; exact harg4.read_unread x2
    isplitl [H3]
    · iexists _
      isplitr
      swap
      · iexact H3
      ipureintro; exact harg5.read_unread x3
    isplitl [H4]
    · iexists _
      isplitr
      swap
      · iexact H4
      ipureintro; exact harg6.read_unread x4
    isplitl [H5]
    · iexists _
      isplitr
      swap
      · iexact H5
      ipureintro; exact harg7.read_unread x5
    isplitl [H6]
    · iexists _
      isplitr
      swap
      · iexact H6
      ipureintro; exact harg8.read_unread x6
    isplitl [H7]
    · iexists _
      isplitr
      swap
      · iexact H7
      ipureintro; exact harg9.read_unread x7
    isplitl [H8]
    · iexists _
      isplitr
      swap
      · iexact H8
      ipureintro; exact harg10.read_unread x8
    isplitl [H9]
    · iexists _
      isplitr
      swap
      · iexact H9
      ipureintro
      exact (View.read_writes_full _ _ _ _ _).trans (congr (congr (congrArg k0_pay7 (xload harg13 xs)) (slot_read harg12 i ws)) (bload harg10 x8))
    isplitl [HS0]
    · iexists _
      isplitr
      swap
      · iexact HS0
      ipureintro; exact harg12.read_unread ws
    iexists _
    isplitr
    swap
    · iexact HS1
    ipureintro; exact harg13.read_unread xs

end Cert.KernelIdeal.Hand

end
-- ==== Proof.Ideal.RunNX.lean ====
module

public import proofs.«01_k».proof.Proof.Gen.KernelIdeal.Frame
public import proofs.«01_k».proof.Proof.Gen.KernelIdeal.Skeleton
public import Idealize.ShloMosaic.Lib.Tactic
public import proofs.«01_k».proof.Proof.Ideal.Tile

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
set_option sl_exec.closedPieces true in
/-- The point's run where the slot of weights is filled already and it fills the activations: the output block is the product of the activations with the slot, plus the bias. -/
theorem runNX (c : Dev nD) (i : grid0.Coords) (arg2 : Memref sig .tc .smem S16 .f32) (harg2 : arg2.IsWhole) (arg3 : Memref sig .tc .smem S1 .f32) (harg3 : arg3.IsWhole)
    (arg4 : Memref sig .tc .vmem S512x2048 .f32) (harg4 : arg4.IsWhole) (arg5 : Memref sig .tc .vmem S2048x1024 .i8) (harg5 : arg5.IsWhole)
    (arg6 : Memref sig .tc .vmem S32x1024 .i8) (harg6 : arg6.IsWhole) (arg7 : Memref sig .tc .vmem S1x32x4 .f32) (harg7 : arg7.IsWhole)
    (arg8 : Memref sig .tc .vmem S2048x16 .bf16) (harg8 : arg8.IsWhole) (arg9 : Memref sig .tc .vmem S16x1024 .bf16) (harg9 : arg9.IsWhole)
    (arg10 : Memref sig .tc .vmem S1x1024 .f32) (harg10 : arg10.IsWhole) (arg11 : Memref sig .tc .vmem S512x1024 .f32) (harg11 : arg11.IsWhole)
    (arg12 : Memref sig .tc .vmem S8x2176x1024 .bf16) (harg12 : arg12.IsWhole) (arg13 : Memref sig .tc .vmem S512x2176 .bf16) (harg13 : arg13.IsWhole)
    (hc0 : ¬condW i) (hc2 : condX i)
    (x0 : Vec F S16 .f32) (x1 : Vec F S1 .f32) (x2 : Vec F S512x2048 .f32) (x3 : Vec F S2048x1024 .i8) (x4 : Vec F S32x1024 .i8)
    (x5 : Vec F S1x32x4 .f32) (x6 : Vec F S2048x16 .bf16) (x7 : Vec F S16x1024 .bf16) (x8 : Vec F S1x1024 .f32) (ws : Vec F S8x2176x1024 .bf16) (xs : Vec F S512x2176 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare ws ∗ owns (c : Thread nD τ) arg13 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (k0_pay7 (xTile x2 x6) (slotW i ws) x8) ∗ owns (c : Thread nD τ) arg12 fullShare ws ∗ owns (c : Thread nD τ) arg13 fullShare (xTile x2 x6)) -∗ K ⟨⟩))
          ⊢ wp frame (wpE (defs₀ (F := F)) Variants.none c none) E (cc0_qlora_nf4_linear i arg2 harg2 arg3 harg3 arg4 harg4 arg5 harg5 arg6 harg6 arg7 harg7 arg8 harg8 arg9 harg9 arg10 harg10 arg11 harg11 arg12 harg12 arg13 harg13) K := by
    intro E K
    simp only [cc0_qlora_nf4_linear_eq_skeleton]; unfold cc0_qlora_nf4_linear_skel
    simp only [k0_part67_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    obtain rfl := harg12.eq_unread hfs0; obtain rfl := harg13.eq_unread hfs1
    sl_exec (disch := first | sl_exact hc0 | sl_exact hc2)
    sl_step
    iapply Hk
    isplitl [H0]
    · iexists _
      isplitr
      swap
      · iexact H0
      ipureintro; exact harg2.read_unread x0
    isplitl [H1]
    · iexists _
      isplitr
      swap
      · iexact H1
      ipureintro; exact harg3.read_unread x1
    isplitl [H2]
    · iexists _
      isplitr
      swap
      · iexact H2
      ipureintro; exact harg4.read_unread x2
    isplitl [H3]
    · iexists _
      isplitr
      swap
      · iexact H3
      ipureintro; exact harg5.read_unread x3
    isplitl [H4]
    · iexists _
      isplitr
      swap
      · iexact H4
      ipureintro; exact harg6.read_unread x4
    isplitl [H5]
    · iexists _
      isplitr
      swap
      · iexact H5
      ipureintro; exact harg7.read_unread x5
    isplitl [H6]
    · iexists _
      isplitr
      swap
      · iexact H6
      ipureintro; exact harg8.read_unread x6
    isplitl [H7]
    · iexists _
      isplitr
      swap
      · iexact H7
      ipureintro; exact harg9.read_unread x7
    isplitl [H8]
    · iexists _
      isplitr
      swap
      · iexact H8
      ipureintro; exact harg10.read_unread x8
    isplitl [H9]
    · iexists _
      isplitr
      swap
      · iexact H9
      ipureintro
      exact (View.read_writes_full _ _ _ _ _).trans (congr (congr (congrArg k0_pay7 (xload_fill harg4 harg8 x2 x6)) (slot_read harg12 i ws)) (bload harg10 x8))
    isplitl [HS0]
    · iexists _
      isplitr
      swap
      · iexact HS0
      ipureintro; exact harg12.read_unread ws
    iexists _
    isplitr
    swap
    · iexact HS1
    ipureintro; exact (xread_fill harg4 harg8 x2 x6 _)

end Cert.KernelIdeal.Hand

end
-- ==== Proof.Ideal.RunWN.lean ====
module

public import proofs.«01_k».proof.Proof.Gen.KernelIdeal.Frame
public import proofs.«01_k».proof.Proof.Gen.KernelIdeal.Skeleton
public import Idealize.ShloMosaic.Lib.Tactic
public import proofs.«01_k».proof.Proof.Ideal.Tile

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
set_option sl_exec.closedPieces true in
/-- The point's run where it fills the slot of weights and the activations are filled already: the output block is the product of the activations with the slot, plus the bias. -/
theorem runWN (c : Dev nD) (i : grid0.Coords) (arg2 : Memref sig .tc .smem S16 .f32) (harg2 : arg2.IsWhole) (arg3 : Memref sig .tc .smem S1 .f32) (harg3 : arg3.IsWhole)
    (arg4 : Memref sig .tc .vmem S512x2048 .f32) (harg4 : arg4.IsWhole) (arg5 : Memref sig .tc .vmem S2048x1024 .i8) (harg5 : arg5.IsWhole)
    (arg6 : Memref sig .tc .vmem S32x1024 .i8) (harg6 : arg6.IsWhole) (arg7 : Memref sig .tc .vmem S1x32x4 .f32) (harg7 : arg7.IsWhole)
    (arg8 : Memref sig .tc .vmem S2048x16 .bf16) (harg8 : arg8.IsWhole) (arg9 : Memref sig .tc .vmem S16x1024 .bf16) (harg9 : arg9.IsWhole)
    (arg10 : Memref sig .tc .vmem S1x1024 .f32) (harg10 : arg10.IsWhole) (arg11 : Memref sig .tc .vmem S512x1024 .f32) (harg11 : arg11.IsWhole)
    (arg12 : Memref sig .tc .vmem S8x2176x1024 .bf16) (harg12 : arg12.IsWhole) (arg13 : Memref sig .tc .vmem S512x2176 .bf16) (harg13 : arg13.IsWhole)
    (hc0 : condW i) (hc2 : ¬condX i)
    (x0 : Vec F S16 .f32) (x1 : Vec F S1 .f32) (x2 : Vec F S512x2048 .f32) (x3 : Vec F S2048x1024 .i8) (x4 : Vec F S32x1024 .i8)
    (x5 : Vec F S1x32x4 .f32) (x6 : Vec F S2048x16 .bf16) (x7 : Vec F S16x1024 .bf16) (x8 : Vec F S1x1024 .f32) (ws : Vec F S8x2176x1024 .bf16) (xs : Vec F S512x2176 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare ws ∗ owns (c : Thread nD τ) arg13 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (k0_pay7 xs (slotW i (fillW i ws x0 x1 x3 x4 x5 x7)) x8) ∗ owns (c : Thread nD τ) arg12 fullShare (fillW i ws x0 x1 x3 x4 x5 x7) ∗ owns (c : Thread nD τ) arg13 fullShare xs) -∗ K ⟨⟩))
          ⊢ wp frame (wpE (defs₀ (F := F)) Variants.none c none) E (cc0_qlora_nf4_linear i arg2 harg2 arg3 harg3 arg4 harg4 arg5 harg5 arg6 harg6 arg7 harg7 arg8 harg8 arg9 harg9 arg10 harg10 arg11 harg11 arg12 harg12 arg13 harg13) K := by
    intro E K
    simp only [cc0_qlora_nf4_linear_eq_skeleton]; unfold cc0_qlora_nf4_linear_skel
    simp only [k0_part67_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    obtain rfl := harg12.eq_unread hfs0; obtain rfl := harg13.eq_unread hfs1
    sl_exec (disch := first | sl_exact hc0 | sl_exact hc2)
    sl_step
    iapply Hk
    have hF : Filled (slotFn x0 x1 x3 x4 x5 x7) (i 1).val 2176
        (runWN.sl.HS0_34 c i arg2 harg2 arg3 harg3 arg5 harg5 arg6 harg6 arg7 harg7 arg9 harg9 hc0 x0 x1 x3 x4 x5 x7) := by
      refine Filled.zero x0 x1 x3 x4 x5 x7 (Filled.lora harg9 x0 x1 x3 x4 x5 x7 ?_ rfl) rfl
      iterate 32 refine Filled.blk harg2 harg3 harg5 harg6 harg7 x0 x1 x3 x4 x5 x7 ?_ rfl (by decide) (by decide) rfl
      exact Filled.nil _ _
    isplitl [H0]
    · iexists _
      isplitr
      swap
      · iexact H0
      ipureintro; exact harg2.read_unread x0
    isplitl [H1]
    · iexists _
      isplitr
      swap
      · iexact H1
      ipureintro; exact harg3.read_unread x1
    isplitl [H2]
    · iexists _
      isplitr
      swap
      · iexact H2
      ipureintro; exact harg4.read_unread x2
    isplitl [H3]
    · iexists _
      isplitr
      swap
      · iexact H3
      ipureintro; exact harg5.read_unread x3
    isplitl [H4]
    · iexists _
      isplitr
      swap
      · iexact H4
      ipureintro; exact harg6.read_unread x4
    isplitl [H5]
    · iexists _
      isplitr
      swap
      · iexact H5
      ipureintro; exact harg7.read_unread x5
    isplitl [H6]
    · iexists _
      isplitr
      swap
      · iexact H6
      ipureintro; exact harg8.read_unread x6
    isplitl [H7]
    · iexists _
      isplitr
      swap
      · iexact H7
      ipureintro; exact harg9.read_unread x7
    isplitl [H8]
    · iexists _
      isplitr
      swap
      · iexact H8
      ipureintro; exact harg10.read_unread x8
    isplitl [H9]
    · iexists _
      isplitr
      swap
      · iexact H9
      ipureintro
      exact (View.read_writes_full _ _ _ _ _).trans (congr (congr (congrArg k0_pay7 (xload harg13 xs)) (hF.slot x0 x1 x3 x4 x5 x7 ws)) (bload harg10 x8))
    isplitl [HS0]
    · iexists _
      isplitr
      swap
      · iexact HS0
      ipureintro; exact hF.read x0 x1 x3 x4 x5 x7 harg12 ws
    iexists _
    isplitr
    swap
    · iexact HS1
    ipureintro; exact harg13.read_unread xs

end Cert.KernelIdeal.Hand

end
-- ==== Proof.Ideal.RunWX.lean ====
module

public import proofs.«01_k».proof.Proof.Gen.KernelIdeal.Frame
public import proofs.«01_k».proof.Proof.Gen.KernelIdeal.Skeleton
public import Idealize.ShloMosaic.Lib.Tactic
public import proofs.«01_k».proof.Proof.Ideal.Tile

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
set_option sl_exec.closedPieces true in
/-- The point's run where it fills the slot of weights and it fills the activations: the output block is the product of the activations with the slot, plus the bias. -/
theorem runWX (c : Dev nD) (i : grid0.Coords) (arg2 : Memref sig .tc .smem S16 .f32) (harg2 : arg2.IsWhole) (arg3 : Memref sig .tc .smem S1 .f32) (harg3 : arg3.IsWhole)
    (arg4 : Memref sig .tc .vmem S512x2048 .f32) (harg4 : arg4.IsWhole) (arg5 : Memref sig .tc .vmem S2048x1024 .i8) (harg5 : arg5.IsWhole)
    (arg6 : Memref sig .tc .vmem S32x1024 .i8) (harg6 : arg6.IsWhole) (arg7 : Memref sig .tc .vmem S1x32x4 .f32) (harg7 : arg7.IsWhole)
    (arg8 : Memref sig .tc .vmem S2048x16 .bf16) (harg8 : arg8.IsWhole) (arg9 : Memref sig .tc .vmem S16x1024 .bf16) (harg9 : arg9.IsWhole)
    (arg10 : Memref sig .tc .vmem S1x1024 .f32) (harg10 : arg10.IsWhole) (arg11 : Memref sig .tc .vmem S512x1024 .f32) (harg11 : arg11.IsWhole)
    (arg12 : Memref sig .tc .vmem S8x2176x1024 .bf16) (harg12 : arg12.IsWhole) (arg13 : Memref sig .tc .vmem S512x2176 .bf16) (harg13 : arg13.IsWhole)
    (hc0 : condW i) (hc2 : condX i)
    (x0 : Vec F S16 .f32) (x1 : Vec F S1 .f32) (x2 : Vec F S512x2048 .f32) (x3 : Vec F S2048x1024 .i8) (x4 : Vec F S32x1024 .i8)
    (x5 : Vec F S1x32x4 .f32) (x6 : Vec F S2048x16 .bf16) (x7 : Vec F S16x1024 .bf16) (x8 : Vec F S1x1024 .f32) (ws : Vec F S8x2176x1024 .bf16) (xs : Vec F S512x2176 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare ws ∗ owns (c : Thread nD τ) arg13 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (k0_pay7 (xTile x2 x6) (slotW i (fillW i ws x0 x1 x3 x4 x5 x7)) x8) ∗ owns (c : Thread nD τ) arg12 fullShare (fillW i ws x0 x1 x3 x4 x5 x7) ∗ owns (c : Thread nD τ) arg13 fullShare (xTile x2 x6)) -∗ K ⟨⟩))
          ⊢ wp frame (wpE (defs₀ (F := F)) Variants.none c none) E (cc0_qlora_nf4_linear i arg2 harg2 arg3 harg3 arg4 harg4 arg5 harg5 arg6 harg6 arg7 harg7 arg8 harg8 arg9 harg9 arg10 harg10 arg11 harg11 arg12 harg12 arg13 harg13) K := by
    intro E K
    simp only [cc0_qlora_nf4_linear_eq_skeleton]; unfold cc0_qlora_nf4_linear_skel
    simp only [k0_part67_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    obtain rfl := harg12.eq_unread hfs0; obtain rfl := harg13.eq_unread hfs1
    sl_exec (disch := first | sl_exact hc0 | sl_exact hc2)
    sl_step
    iapply Hk
    have hF : Filled (slotFn x0 x1 x3 x4 x5 x7) (i 1).val 2176
        (runWX.sl.HS0_34 c i arg2 harg2 arg3 harg3 arg5 harg5 arg6 harg6 arg7 harg7 arg9 harg9 hc0 x0 x1 x3 x4 x5 x7) := by
      refine Filled.zero x0 x1 x3 x4 x5 x7 (Filled.lora harg9 x0 x1 x3 x4 x5 x7 ?_ rfl) rfl
      iterate 32 refine Filled.blk harg2 harg3 harg5 harg6 harg7 x0 x1 x3 x4 x5 x7 ?_ rfl (by decide) (by decide) rfl
      exact Filled.nil _ _
    isplitl [H0]
    · iexists _
      isplitr
      swap
      · iexact H0
      ipureintro; exact harg2.read_unread x0
    isplitl [H1]
    · iexists _
      isplitr
      swap
      · iexact H1
      ipureintro; exact harg3.read_unread x1
    isplitl [H2]
    · iexists _
      isplitr
      swap
      · iexact H2
      ipureintro; exact harg4.read_unread x2
    isplitl [H3]
    · iexists _
      isplitr
      swap
      · iexact H3
      ipureintro; exact harg5.read_unread x3
    isplitl [H4]
    · iexists _
      isplitr
      swap
      · iexact H4
      ipureintro; exact harg6.read_unread x4
    isplitl [H5]
    · iexists _
      isplitr
      swap
      · iexact H5
      ipureintro; exact harg7.read_unread x5
    isplitl [H6]
    · iexists _
      isplitr
      swap
      · iexact H6
      ipureintro; exact harg8.read_unread x6
    isplitl [H7]
    · iexists _
      isplitr
      swap
      · iexact H7
      ipureintro; exact harg9.read_unread x7
    isplitl [H8]
    · iexists _
      isplitr
      swap
      · iexact H8
      ipureintro; exact harg10.read_unread x8
    isplitl [H9]
    · iexists _
      isplitr
      swap
      · iexact H9
      ipureintro
      exact (View.read_writes_full _ _ _ _ _).trans (congr (congr (congrArg k0_pay7 (xload_fill harg4 harg8 x2 x6)) (hF.slot x0 x1 x3 x4 x5 x7 ws)) (bload harg10 x8))
    isplitl [HS0]
    · iexists _
      isplitr
      swap
      · iexact HS0
      ipureintro; exact hF.read x0 x1 x3 x4 x5 x7 harg12 ws
    iexists _
    isplitr
    swap
    · iexact HS1
    ipureintro; exact (xread_fill harg4 harg8 x2 x6 _)

end Cert.KernelIdeal.Hand

end
-- ==== Proof.Ideal.Body.lean ====
/-
  The body's obligation at every grid point, and the launch: every run of @main ends with every output block
  holding `outT`.
-/
module

public import proofs.«01_k».proof.Proof.Ideal.State
public import proofs.«01_k».proof.Proof.Ideal.RunNN
public import proofs.«01_k».proof.Proof.Ideal.RunNX
public import proofs.«01_k».proof.Proof.Ideal.RunWN
public import proofs.«01_k».proof.Proof.Ideal.RunWX
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, spelled as the pipeline passes it (`bodyAt0`), and its wholeness. -/
abbrev ms0_0 (t : Fin cfg0.N) : Memref sig .tc .smem S16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1024 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x1024 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x32x4 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x16 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S16x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x1024 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S8x2176x1024 .bf16 := Memref.whole cc0_scratch0
abbrev scM0_1 : Memref sig .tc .vmem S512x2176 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The pipeline's proof data -/

/-- The invariant before point `k`: the two scratch buffers at contents that hold what the points before left there. -/
def PhiT (c : Dev nD) (k : ℕ) : sProp 𝕄 :=
  iprop(∃ ws, ∃ xs, ⌜GoodW m c k ws⌝ ∗ ⌜GoodX m c k xs⌝ ∗ owns (c : Thread nD τ) scM0_0 fullShare ws ∗ owns (c : Thread nD τ) scM0_1 fullShare xs
    ∗ (∃ r, prngReg c r))

/-- The proof data of the pipeline on core `c`: each input's buffer at its block after every point, the output's at `outT`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outT m c t
  Φ t := PhiT m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outT m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 4000000 in
/-- The body at any point, by its four cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8, after0_9]
  rw [show (dats m 0 c).Φ t.castSucc = PhiT m c t.val from rfl, show (dats m 0 c).Φ t.succ = PhiT m c (t.val + 1) from rfl]
  unfold PhiT outT
  by_cases h0 : t.val < 8
  · by_cases h2 : t.val % 8 = 0
    · iintro ⟨⟨%ws, %xs, %hw, %hx, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      have hw' := goodW_fill m c t h0 hw
      have hs := slot_good m c t (show t.val % 8 < t.val + 1 by omega) hw'
      iapply (runWX c (grid0.coords t) _ _ _ _ _ _ _ _ _ _ _ _ _ _ _ _ _ _ _ _ _ _ _ _ ((condW_iff t).mpr h0) ((condX_iff t).mpr h2) (iblk m c 0 t) (iblk m c 1 t) (iblk m c 2 t) (iblk m c 3 t) (iblk m c 4 t) (iblk m c 5 t) (iblk m c 6 t) (iblk m c 7 t) (iblk m c 8 t) ws xs Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      rw [hs, xAt_fill m c t h2]
      iintro ⟨H0, H1, H2, H3, H4, H5, H6, H7, H8, H9, HS0, HS1⟩
      isplitl [HS0 HS1 Hg]
      · iexists _; iexists _
        isplitr; · ipureintro; exact hw'
        isplitr; · ipureintro; exact goodX_next m c t
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · iintro ⟨⟨%ws, %xs, %hw, %hx, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      have hw' := goodW_fill m c t h0 hw
      have hs := slot_good m c t (show t.val % 8 < t.val + 1 by omega) hw'
      obtain rfl : xs = xAt m c t := hx t rfl h2
      iapply (runWN c (grid0.coords t) _ _ _ _ _ _ _ _ _ _ _ _ _ _ _ _ _ _ _ _ _ _ _ _ ((condW_iff t).mpr h0) (fun h => h2 ((condX_iff t).mp h)) (iblk m c 0 t) (iblk m c 1 t) (iblk m c 2 t) (iblk m c 3 t) (iblk m c 4 t) (iblk m c 5 t) (iblk m c 6 t) (iblk m c 7 t) (iblk m c 8 t) ws (xAt m c t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      rw [hs]
      iintro ⟨H0, H1, H2, H3, H4, H5, H6, H7, H8, H9, HS0, HS1⟩
      isplitl [HS0 HS1 Hg]
      · iexists _; iexists _
        isplitr; · ipureintro; exact hw'
        isplitr; · ipureintro; exact goodX_next m c t
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  · by_cases h2 : t.val % 8 = 0
    · iintro ⟨⟨%ws, %xs, %hw, %hx, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      have hw' := goodW_keep m c t h0 hw
      have hs := slot_good m c t (show t.val % 8 < t.val by omega) hw
      iapply (runNX c (grid0.coords t) _ _ _ _ _ _ _ _ _ _ _ _ _ _ _ _ _ _ _ _ _ _ _ _ (fun h => h0 ((condW_iff t).mp h)) ((condX_iff t).mpr h2) (iblk m c 0 t) (iblk m c 1 t) (iblk m c 2 t) (iblk m c 3 t) (iblk m c 4 t) (iblk m c 5 t) (iblk m c 6 t) (iblk m c 7 t) (iblk m c 8 t) ws xs Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      rw [hs, xAt_fill m c t h2]
      iintro ⟨H0, H1, H2, H3, H4, H5, H6, H7, H8, H9, HS0, HS1⟩
      isplitl [HS0 HS1 Hg]
      · iexists _; iexists _
        isplitr; · ipureintro; exact hw'
        isplitr; · ipureintro; exact goodX_next m c t
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · iintro ⟨⟨%ws, %xs, %hw, %hx, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      have hw' := goodW_keep m c t h0 hw
      have hs := slot_good m c t (show t.val % 8 < t.val by omega) hw
      obtain rfl : xs = xAt m c t := hx t rfl h2
      iapply (runNN c (grid0.coords t) _ _ _ _ _ _ _ _ _ _ _ _ _ _ _ _ _ _ _ _ _ _ _ _ (fun h => h0 ((condW_iff t).mp h)) (fun h => h2 ((condX_iff t).mp h)) (iblk m c 0 t) (iblk m c 1 t) (iblk m c 2 t) (iblk m c 3 t) (iblk m c 4 t) (iblk m c 5 t) (iblk m c 6 t) (iblk m c 7 t) (iblk m c 8 t) ws (xAt m c t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      rw [hs]
      iintro ⟨H0, H1, H2, H3, H4, H5, H6, H7, H8, H9, HS0, HS1⟩
      isplitl [HS0 HS1 Hg]
      · iexists _; iexists _
        isplitr; · ipureintro; exact hw'
        isplitr; · ipureintro; exact goodX_next m c t
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem phi_in (c : Dev nD) : Pipeline.ΦA spec0 c ⊢ (dats (F := F) m 0 c).Φ 0 := by
  rw [PhiA0_eq, show (dats (F := F) m 0 c).Φ 0 = PhiT m c 0 from rfl]
  unfold PhiT
  iintro ⟨⟨⟨%ws, HS0⟩, ⟨%xs, HS1⟩⟩, Hg⟩
  iexists ws; iexists xs
  isplitr; · ipureintro; exact fun y h => absurd h (Nat.not_lt_zero _)
  isplitr; · ipureintro; exact fun t h hn => absurd (by omega) hn
  isplitl [HS0]; · iexact HS0
  isplitl [HS1]; · iexact HS1
  iexact Hg

theorem phi_out (c : Dev nD) : (dats (F := F) m 0 c).Φ (Fin.last cfg0.N) ⊢ Pipeline.ΦA spec0 c := by
  rw [PhiA0_eq, show (dats (F := F) m 0 c).Φ (Fin.last cfg0.N) = PhiT m c (Fin.last cfg0.N).val from rfl]
  unfold PhiT
  iintro ⟨%ws, %xs, -, -, HS0, HS1, Hg⟩
  isplitl [HS0 HS1]
  · isplitl [HS0]
    · iexists _; iexact HS0
    iexists _; iexact HS1
  iexact Hg

set_option backward.isDefEq.respectTransparency.types false in
set_option maxHeartbeats 800000 in
/-- Every run of @main ends with the arrays as the proof data say, and every semaphore at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := phi_in m) (hout := phi_out m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the argument arrays end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Ideal.RefRun.lean ====
/-
  The reference's run leaves its arguments as they were.
-/
module

public import proofs.«01_k».proof.Proof.Gen.ReferenceIdeal.Run
public import Idealize.ShloMosaic.Lib.Quiescent

@[expose] public section

noncomputable section

namespace Cert.ReferenceIdeal.RefValue

open Cert.ReferenceIdeal Cert.ReferenceIdeal.Gen Idealize.ShloMosaic Idealize.ShloMosaic.TcCoe Idealize.SL.Sem

variable {F : FTy → Type} [FloatOps F]

/-- The frame: the argument arrays end unchanged and every semaphore at zero (the program declares none). -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => (h c).2, sem_eq_zero_of_no_sems (by decide) r.2⟩) (Value.run m ρ)

end Cert.ReferenceIdeal.RefValue

end
-- ==== Proof.Kern.Frame.lean ====
/- The frame of the kernel itself. The ideal program was obtained with no rewrite rule, so it is the kernel's own text
   read over any instance of the floats: at the machine instance the two programs are the same term, and the run that
   `Proof.Ideal.Body` proves of the one, generic in the instance, is the run of the other. -/
module

public import proofs.«01_k».proof.Proof.Gen.Kernel
public import proofs.«01_k».proof.Proof.Ideal.Body

@[expose] public section
set_option maxRecDepth 65536
noncomputable section
namespace Cert.KernelFrame
open Idealize.ShloMosaic Idealize.ShloMosaic.TcCoe Idealize.SL.Sem

set_option maxHeartbeats 0 in
/-- The two bodies are the same term. -/
theorem body_eq : @Cert.Kernel.cc0_qlora_nf4_linear Bits _ Cert.Kernel.Gen.facts
    = @Cert.KernelIdeal.cc0_qlora_nf4_linear Bits _ Cert.KernelIdeal.Gen.facts := rfl

/-! Each window's staging buffers are the same in the two programs. -/

theorem stage0_eq : Cert.Kernel.stage0_0 = Cert.KernelIdeal.stage0_0 := by first | rfl | (funext s; fin_cases s <;> rfl)
theorem stage1_eq : Cert.Kernel.stage0_1 = Cert.KernelIdeal.stage0_1 := by first | rfl | (funext s; fin_cases s <;> rfl)
theorem stage2_eq : Cert.Kernel.stage0_2 = Cert.KernelIdeal.stage0_2 := by first | rfl | (funext s; fin_cases s <;> rfl)
theorem stage3_eq : Cert.Kernel.stage0_3 = Cert.KernelIdeal.stage0_3 := by first | rfl | (funext s; fin_cases s <;> rfl)
theorem stage4_eq : Cert.Kernel.stage0_4 = Cert.KernelIdeal.stage0_4 := by first | rfl | (funext s; fin_cases s <;> rfl)
theorem stage5_eq : Cert.Kernel.stage0_5 = Cert.KernelIdeal.stage0_5 := by first | rfl | (funext s; fin_cases s <;> rfl)
theorem stage6_eq : Cert.Kernel.stage0_6 = Cert.KernelIdeal.stage0_6 := by first | rfl | (funext s; fin_cases s <;> rfl)
theorem stage7_eq : Cert.Kernel.stage0_7 = Cert.KernelIdeal.stage0_7 := by first | rfl | (funext s; fin_cases s <;> rfl)
theorem stage8_eq : Cert.Kernel.stage0_8 = Cert.KernelIdeal.stage0_8 := by first | rfl | (funext s; fin_cases s <;> rfl)
theorem stage9_eq : Cert.Kernel.stage0_9 = Cert.KernelIdeal.stage0_9 := by first | rfl | (funext s; fin_cases s <;> rfl)

set_option maxHeartbeats 0 in
/-- The two body tables agree: the one label's body, at the same staging buffers. -/
theorem defs0_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) =>
    dsimp only
    rw [body_eq]
    congr 1

/-- So do the tables with the pipeline's own labels. -/
theorem defs_eq : Cert.Kernel.defs (F := Bits) = Cert.KernelIdeal.defs (F := Bits) :=
  congrArg (Pipeline.defs (Cert.KernelIdeal.pcfgs (F := Bits))) defs0_eq

set_option maxHeartbeats 0 in
/-- The two host programs are the same term. -/
theorem main_eq : Cert.Kernel.main (F := Bits) = Cert.KernelIdeal.main (F := Bits) := rfl

set_option maxHeartbeats 0 in
/-- Every run of the kernel from quiescent semaphores ends without fault, with its arguments as launched and the
    semaphores at zero again. -/
theorem frame (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)) ∧ r.2.sem = fun _ => 0) := by
  rw [defs_eq, main_eq]
  exact Cert.KernelIdeal.Hand.frame (F := Bits) m ρ

end Cert.KernelFrame
end
-- ==== Proof.Value.Blocks.lean ====
/-
  The input blocks of the kernel read off the arguments, entry by entry.
-/
module

public import proofs.«01_k».proof.Proof.Ideal.State
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The windows' block indices at every point. -/
theorem idx : ∀ t : Fin cfg0.N, win0_0.index t = ![0] ∧ win0_1.index t = ![0] ∧ win0_2.index t = ![t.val / 8, 0]
    ∧ win0_6.index t = ![0, 0] ∧ win0_8.index t = ![0, t.val % 8] ∧ win0_9.index t = ![t.val / 8, t.val % 8] :=
  (by decide +kernel : ∀ t : Fin grid0.N, _)

/-- The weight windows' block indices at the first eight points. -/
theorem idxW : ∀ t : Fin cfg0.N, t.val < 8 → win0_3.index t = ![0, t.val] ∧ win0_4.index t = ![0, t.val]
    ∧ win0_5.index t = ![t.val, 0, 0] ∧ win0_7.index t = ![0, t.val] :=
  (by decide +kernel : ∀ t : Fin grid0.N, _)

/-- The table is fetched whole. -/
theorem iblk0 (c : Dev nD) (t : Fin cfg0.N) (e : Fin 16) :
    iblk m c 0 t (ix1 e) = m ((c : Thread nD τ).loc main_arg2) (ix1 e) := by
  blk_ext! [iblk, V, idx t]

/-- The offset is fetched whole. -/
theorem iblk1 (c : Dev nD) (t : Fin cfg0.N) (e : Fin 1) :
    iblk m c 1 t (ix1 e) = m ((c : Thread nD τ).loc main_arg5) (ix1 e) := by
  blk_ext! [iblk, V, idx t]

/-- The first low-rank factor is fetched whole. -/
theorem iblk6 (c : Dev nD) (t : Fin cfg0.N) (k : Fin 2048) (r : Fin 16) :
    iblk m c 6 t (ix2 k r) = m ((c : Thread nD τ).loc main_arg6) (ix2 k r) := by
  blk_ext! [iblk, V, idx t]

/-- The codes' block of slot `j`: its 1024 columns. -/
theorem iblk3 (c : Dev nD) (j : Fin 8) (k : Fin 2048) (n : Fin 1024) (n' : Fin 8192) (h : n'.val = j.val * 1024 + n.val) :
    iblk m c 3 (ptW j) (ix2 k n) = m ((c : Thread nD τ).loc main_arg1) (ix2 k n') := by
  have hj := idxW (ptW j) j.isLt
  have e : (ptW j).val = j.val := rfl
  blk_ext! [iblk, V, hj, e]

/-- The block maxima's codes of slot `j`. -/
theorem iblk4 (c : Dev nD) (j : Fin 8) (q : Fin 32) (n : Fin 1024) (n' : Fin 8192) (h : n'.val = j.val * 1024 + n.val) :
    iblk m c 4 (ptW j) (ix2 q n) = m ((c : Thread nD τ).loc main_arg3) (ix2 q n') := by
  have hj := idxW (ptW j) j.isLt
  have e : (ptW j).val = j.val := rfl
  blk_ext! [iblk, V, hj, e]

/-- The second low-rank factor's columns of slot `j`. -/
theorem iblk7 (c : Dev nD) (j : Fin 8) (r : Fin 16) (n : Fin 1024) (n' : Fin 8192) (h : n'.val = j.val * 1024 + n.val) :
    iblk m c 7 (ptW j) (ix2 r n) = m ((c : Thread nD τ).loc main_arg7) (ix2 r n') := by
  have hj := idxW (ptW j) j.isLt
  have e : (ptW j).val = j.val := rfl
  blk_ext! [iblk, V, hj, e]

/-- The scales as the region finds them: split in column groups and the blocks of columns outermost. -/
theorem V_v1 (c : Dev nD) : (V m c main_v1 : Vec F S8x32x4 .f32) = transpose S8x32x4 [1, 0, 2]
    (shapeCast S32x8x4 (m ((c : Thread nD τ).loc main_arg4) : Vec F S32x32 .f32) shapeCasts_S32x32_S32x8x4) transposes_S32x8x4_S8x32x4_1_0_2 := by
  entry_read
  rfl

/-- The activations as the region finds them: the batches' rows one under another. -/
theorem V_v2 (c : Dev nD) : (V m c main_v2 : Vec F S16384x2048 .f32)
    = shapeCast S16384x2048 (m ((c : Thread nD τ).loc main_arg0) : Vec F S8x2048x2048 .f32) shapeCasts_S8x2048x2048_S16384x2048 := by
  entry_read
  rfl

/-- The bias as the region finds it: one row. -/
theorem V_v3 (c : Dev nD) : (V m c main_v3 : Vec F S1x8192 .f32)
    = shapeCast S1x8192 (m ((c : Thread nD τ).loc main_arg8) : Vec F S8192 .f32) shapeCasts_S8192_S1x8192 := by
  entry_read
  rfl

/-- Batches' rows one under another, at an entry. -/
theorem rows_apply (X : Vec F S8x2048x2048 .f32) (M : Fin 16384) (k : Fin 2048) (b : Fin 8) (s : Fin 2048) (h : M.val = b.val * 2048 + s.val) :
    shapeCast S16384x2048 X shapeCasts_S8x2048x2048_S16384x2048 (ix2 M k) = X (ix3 b s k) := by
  pointwise
  blk_ext! []

/-- A vector as one row, at an entry. -/
theorem row_apply (X : Vec F S8192 .f32) (n' : Fin 8192) :
    shapeCast S1x8192 X shapeCasts_S8192_S1x8192 (ix2 (0 : Fin 1) n') = X (ix1 n') := by
  pointwise

/-- The regrouped scales at an entry. -/
theorem groups_apply (X : Vec F S32x32 .f32) (j : Fin 8) (q : Fin 32) (g : Fin 4) (g' : Fin 32) (h : g'.val = j.val * 4 + g.val) :
    transpose S8x32x4 [1, 0, 2] (shapeCast S32x8x4 X shapeCasts_S32x32_S32x8x4) transposes_S32x8x4_S8x32x4_1_0_2 (ix3 j q g)
      = X (ix2 q g') := by
  pointwise
  blk_ext! []

/-- The scales of slot `j`: its four column groups. -/
theorem iblk5 (c : Dev nD) (j : Fin 8) (u : Fin 1) (q : Fin 32) (g : Fin 4) (g' : Fin 32) (h : g'.val = j.val * 4 + g.val) :
    iblk m c 5 (ptW j) (ix3 u q g) = m ((c : Thread nD τ).loc main_arg4) (ix2 q g') := by
  have hj := idxW (ptW j) j.isLt
  have e : (ptW j).val = j.val := rfl
  have h1 : iblk m c 5 (ptW j) (ix3 u q g) = V m c main_v1 (ix3 j q g) := by
    blk_ext! [iblk, hj, e]
  exact h1.trans ((congrFun (V_v1 m c) (ix3 j q g)).trans (groups_apply _ j q g g' h))

/-- The activations' rows of point `t`. -/
theorem iblk2 (c : Dev nD) (t : Fin cfg0.N) (r : Fin 512) (k : Fin 2048) (b : Fin 8) (s : Fin 2048)
    (h : b.val * 2048 + s.val = t.val / 8 * 512 + r.val) :
    iblk m c 2 t (ix2 r k) = m ((c : Thread nD τ).loc main_arg0) (ix3 b s k) := by
  have h1 : iblk m c 2 t (ix2 r k) = V m c main_v2 (ix2 (⟨b.val * 2048 + s.val, by omega⟩ : Fin 16384) k) := by
    blk_ext! [iblk, idx t]
  exact h1.trans ((congrFun (V_v2 m c) _).trans (rows_apply _ _ k b s rfl))

/-- The bias of point `t`'s columns. -/
theorem iblk8 (c : Dev nD) (t : Fin cfg0.N) (u : Fin 1) (n : Fin 1024) (n' : Fin 8192) (h : n'.val = t.val % 8 * 1024 + n.val) :
    iblk m c 8 t (ix2 u n) = m ((c : Thread nD τ).loc main_arg8) (ix1 n') := by
  have h1 : iblk m c 8 t (ix2 u n) = V m c main_v3 (ix2 (0 : Fin 1) n') := by
    blk_ext! [iblk, idx t]
  exact h1.trans ((congrFun (V_v3 m c) _).trans (row_apply _ n'))

end Cert.KernelIdeal.Hand

end
-- ==== Proof.Value.Point.lean ====
/-
  One entry of what the kernel computes, over the extended reals, from the blocks it reads.
-/
module

public import proofs.«01_k».proof.Proof.Ideal.State
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.SL.Sem

/-- The selection tree finds the table's entry of a code below 16. -/
theorem look_eq {α : Type} (t : Fin 16 → α) (c : BitVec 8) (h : c.toNat < 16) : look t (c.setWidth 32) = t ⟨c.toNat, h⟩ := by
  obtain ⟨k, rfl⟩ : ∃ k : Fin 16, c = BitVec.ofNat 8 k.val := ⟨⟨c.toNat, h⟩, by simp⟩
  fin_cases k <;> rfl

/-- The bfloat16 pattern of 2. -/
theorem ofBits_two : Ideal.ofBits .bf16 0x4000#16 = 2 := by
  have h : Ideal.ofBits .bf16 0x4000#16 = ((2 : ℝ) : EReal) := by
    simp [Ideal.ofBits, Ideal.ieee, -EReal.coe_mul]; norm_num
  exact h

/-- A block maximum: its code times its group's scale, plus the offset. -/
theorem absT_apply (x1 : Vec Ideal S1 .f32) (x4 : Vec Ideal S32x1024 .i8) (x5 : Vec Ideal S1x32x4 .f32) (q : Fin 32) (n : Fin 1024) :
    absT x1 x4 x5 (ix2 q n) = ((((x4 (ix2 q n) : BitVec 8).toInt : ℝ) : EReal) * x5 (ix3 0 q ⟨n.val / 256, by omega⟩) + x1 (ix1 0) : EReal) := by
  pointwise [absT, k0_pay8]
  congr 2
  split
  · congr 2; apply Fin.ext; show 0 = n.val / 256; omega
  split
  · congr 2; apply Fin.ext; show 1 = n.val / 256; omega
  split
  · congr 2; apply Fin.ext; show 2 = n.val / 256; omega
  · congr 2; apply Fin.ext; show 3 = n.val / 256; omega

/-- The product of a point, at an entry. -/
theorem pay7_apply (xs : Vec Ideal S512x2176 .bf16) (ws : Vec Ideal S1x2176x1024 .bf16) (b : Vec Ideal S1x1024 .f32) (r : Fin 512) (n : Fin 1024) :
    k0_pay7 xs ws b (ix2 r n) = ((∑ k : Fin 2176, xs (ix2 r k) * ws (ix3 0 k n)) + b (ix2 0 n) : EReal) := by
  pointwise [k0_pay7]

/-- The activations as they are stored. -/
theorem pay5_apply (x2 : Vec Ideal S512x2048 .f32) (r : Fin 512) (k : Fin 2048) : k0_pay5 x2 (ix2 r k) = x2 (ix2 r k) := by
  pointwise [k0_pay5, k0_pay4]

/-- The low-rank image, doubled, and the zeros beside it. -/
theorem pay6_apply (x2 : Vec Ideal S512x2048 .f32) (x6 : Vec Ideal S2048x16 .bf16) (r : Fin 512) (h : Fin 128) :
    k0_pay6 x2 x6 (ix2 r h) = (if h' : h.val < 16 then (∑ k : Fin 2048, x2 (ix2 r k) * x6 (ix2 k ⟨h.val, h'⟩)) * 2 else 0 : EReal) := by
  pointwise [k0_pay6, k0_pay4]
  rw [ofBits_two]

/-- A sum over the 2176 rows of a weight tile: the 2048 rows of weights, the 16 of the low-rank factor, and the 112 of zeros. -/
theorem sum_split (f : Fin 2176 → EReal) :
    ∑ k, f k = (∑ k : Fin 2048, f ⟨k.val, by omega⟩) + ((∑ r : Fin 16, f ⟨2048 + r.val, by omega⟩) + ∑ z : Fin 112, f ⟨2064 + z.val, by omega⟩) := by
  have h1 := Fin.sum_univ_add (a := 2048) (b := 128) f
  have h2 := Fin.sum_univ_add (a := 16) (b := 112) fun i : Fin 128 => f ⟨2048 + i.val, by omega⟩
  refine h1.trans (congrArg₂ (· + ·) rfl (h2.trans (congrArg₂ (· + ·) rfl ?_)))
  refine Finset.sum_congr rfl fun z _ => congrArg f (Fin.ext ?_)
  show 2048 + (16 + z.val) = 2064 + z.val
  omega

/-- An entry of the activations beside the doubled low-rank image, in the first 2048 columns. -/
theorem xTile_x (x2 : Vec Ideal S512x2048 .f32) (x6 : Vec Ideal S2048x16 .bf16) (r : Fin 512) (k : Fin 2048) (hk : k.val < 2176) :
    xTile x2 x6 (ix2 r ⟨k.val, hk⟩) = x2 (ix2 r k) :=
  (dif_pos k.isLt).trans (pay5_apply x2 r k)

/-- In the next 16 columns. -/
theorem xTile_h (x2 : Vec Ideal S512x2048 .f32) (x6 : Vec Ideal S2048x16 .bf16) (r : Fin 512) (h : Fin 16) (hk : 2048 + h.val < 2176) :
    xTile x2 x6 (ix2 r ⟨2048 + h.val, hk⟩) = ((∑ k : Fin 2048, x2 (ix2 r k) * x6 (ix2 k h)) * 2 : EReal) := by
  have e : (⟨2048 + h.val - 2048, by omega⟩ : Fin 128) = ⟨h.val, by omega⟩ := Fin.ext (by show 2048 + h.val - 2048 = h.val; omega)
  refine (dif_neg (by show ¬ 2048 + h.val < 2048; omega)).trans ?_
  refine (congrArg (fun z => k0_pay6 x2 x6 (ix2 r z)) e).trans ?_
  exact (pay6_apply x2 x6 r ⟨h.val, by omega⟩).trans (dif_pos h.isLt)

/-- In the last 112 columns. -/
theorem xTile_z (x2 : Vec Ideal S512x2048 .f32) (x6 : Vec Ideal S2048x16 .bf16) (r : Fin 512) (z : Fin 112) (hk : 2064 + z.val < 2176) :
    xTile x2 x6 (ix2 r ⟨2064 + z.val, hk⟩) = (0 : EReal) := by
  have e : (⟨2064 + z.val - 2048, by omega⟩ : Fin 128) = ⟨16 + z.val, by omega⟩ := Fin.ext (by show 2064 + z.val - 2048 = 16 + z.val; omega)
  refine (dif_neg (by show ¬ 2064 + z.val < 2048; omega)).trans ?_
  refine (congrArg (fun z => k0_pay6 x2 x6 (ix2 r z)) e).trans ?_
  exact (pay6_apply x2 x6 r ⟨16 + z.val, by omega⟩).trans (dif_neg (by show ¬ 16 + z.val < 16; omega))

section

variable (x0 : Vec Ideal S16 .f32) (x1 : Vec Ideal S1 .f32) (x3 : Vec Ideal S2048x1024 .i8) (x4 : Vec Ideal S32x1024 .i8)
  (x5 : Vec Ideal S1x32x4 .f32) (x7 : Vec Ideal S16x1024 .bf16)

/-- An entry of a weight tile in its first 2048 rows, of a code below 16: the table's entry times the block maximum. -/
theorem wTile_w (k : Fin 2048) (n : Fin 1024) (hc : (x3 (ix2 k n) : BitVec 8).toNat < 16) :
    wTile x0 x1 x3 x4 x5 x7 k.val n.val n.isLt = (x0 (ix1 ⟨(x3 (ix2 k n) : BitVec 8).toNat, hc⟩)
      * ((((x4 (ix2 ⟨k.val / 64, by omega⟩ n) : BitVec 8).toInt : ℝ) : EReal) * x5 (ix3 0 ⟨k.val / 64, by omega⟩ ⟨n.val / 256, by omega⟩) + x1 (ix1 0)) : EReal) := by
  refine (dif_pos k.isLt).trans ?_
  refine (Ideal.mulf_def _ _).trans (congrArg₂ (· * ·) ?_ ?_)
  · exact (look_eq _ _ hc).trans rfl
  · exact absT_apply x1 x4 x5 _ n

/-- In the next 16 rows: the low-rank factor. -/
theorem wTile_b (r : Fin 16) (n : Fin 1024) :
    wTile x0 x1 x3 x4 x5 x7 (2048 + r.val) n.val n.isLt = x7 (ix2 r n) := by
  have e : (⟨2048 + r.val - 2048, by omega⟩ : Fin 16) = r := Fin.ext (by show 2048 + r.val - 2048 = r.val; omega)
  refine (dif_neg (by omega)).trans ((dif_pos (by omega)).trans ?_)
  exact congrArg (fun z => x7 (ix2 z n)) e

/-- In the last 112 rows: zero. -/
theorem wTile_z (z : Fin 112) (n : Fin 1024) :
    wTile x0 x1 x3 x4 x5 x7 (2064 + z.val) n.val n.isLt = (0 : EReal) :=
  (dif_neg (by omega)).trans ((dif_neg (by omega)).trans Ideal.ofBits_zero_bf16)

end

end Cert.KernelIdeal.Hand

end
-- ==== Proof.Value.Spec.lean ====
/-
  The value: a linear layer whose weights are 4-bit codes of a table with doubly quantised block maxima, plus twice a low-rank
  product and a bias, entry by entry over the extended reals.
-/
module

public import Idealize.ShloMosaic.PureOps.Ideal
public import Idealize.ShloMosaic.Lib.Pointwise
public import Mathlib.Data.EReal.Operations

@[expose] public section

noncomputable section

namespace Cert.Spec

open Idealize.ShloMosaic

/-- The weight at row `k`, column `n`: the table's entry of its code, times its block's maximum. The maximum of 64 rows is a signed
    code, times the scale of 256 columns, plus the offset. -/
def weight (codes : Vec Ideal ⟨2, ![2048, 8192]⟩ .i8) (table : Vec Ideal ⟨1, ![16]⟩ .f32) (amc : Vec Ideal ⟨2, ![32, 8192]⟩ .i8)
    (scale : Vec Ideal ⟨2, ![32, 32]⟩ .f32) (off : Vec Ideal ⟨1, ![1]⟩ .f32) (k : Fin 2048) (n : Fin 8192) : EReal :=
  table (ix1 ⟨min (codes (ix2 k n) : BitVec 8).toNat 15, by omega⟩)
    * ((((amc (ix2 ⟨k.val / 64, by omega⟩ n) : BitVec 8).toInt : ℝ) : EReal) * scale (ix2 ⟨k.val / 64, by omega⟩ ⟨n.val / 256, by omega⟩)
      + off (ix1 0))

/-- The result at batch `b`, position `s`, column `n`. -/
def entry (x : Vec Ideal ⟨3, ![8, 2048, 2048]⟩ .f32) (codes : Vec Ideal ⟨2, ![2048, 8192]⟩ .i8) (table : Vec Ideal ⟨1, ![16]⟩ .f32)
    (amc : Vec Ideal ⟨2, ![32, 8192]⟩ .i8) (scale : Vec Ideal ⟨2, ![32, 32]⟩ .f32) (off : Vec Ideal ⟨1, ![1]⟩ .f32)
    (a : Vec Ideal ⟨2, ![2048, 16]⟩ .bf16) (lb : Vec Ideal ⟨2, ![16, 8192]⟩ .bf16) (bias : Vec Ideal ⟨1, ![8192]⟩ .f32)
    (b : Fin 8) (s : Fin 2048) (n : Fin 8192) : EReal :=
  (∑ k : Fin 2048, x (ix3 b s k) * weight codes table amc scale off k n)
    + 2 * (∑ r : Fin 16, (∑ k : Fin 2048, x (ix3 b s k) * a (ix2 k r)) * lb (ix2 r n)) + bias (ix1 n)

/-- Twice a sum of products is the sum with each first factor doubled. -/
theorem two_mul_sum {ι : Type} (t : Finset ι) (h b : ι → EReal) : 2 * (∑ r ∈ t, h r * b r) = ∑ r ∈ t, h r * 2 * b r := by
  classical
  induction t using Finset.induction_on with
  | empty => simp
  | insert i t hi ih =>
    rw [Finset.sum_insert hi, Finset.sum_insert hi, ← ih, EReal.left_distrib_of_nonneg_of_ne_top (by norm_num) (by decide)]
    congr 1
    rw [mul_comm (h i) 2, mul_assoc]

/-- The kernel's grouping of an entry: the low-rank terms inside one sum, each doubled, and then some zeros. -/
theorem regroup (u : EReal) (h b : Fin 16 → EReal) (v : EReal) :
    u + ((∑ r, h r * 2 * b r) + ∑ _z : Fin 112, (0 : EReal) * 0) + v = u + 2 * (∑ r, h r * b r) + v := by
  rw [two_mul_sum]
  simp

end Cert.Spec

end
-- ==== Proof.Value.Kernel.lean ====
/-
  The kernel's result, entry by entry, for codes below 16.
-/
module

public import proofs.«01_k».proof.Proof.Value.Blocks
public import proofs.«01_k».proof.Proof.Value.Point
public import proofs.«01_k».proof.Proof.Value.Spec
public import proofs.«01_k».proof.Proof.Ideal.Body
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ)

/-- The layer's entry of the arguments that memory `m` holds. -/
def goal (c : Dev nD) (b : Fin 8) (s : Fin 2048) (n : Fin 8192) : EReal :=
  Spec.entry (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) b s n

/-- Every code of the weights names a table entry. -/
def InTable (c : Dev nD) : Prop := ∀ (k : Fin 2048) (n : Fin 8192), (m ((c : Thread nD τ).loc main_arg1) (ix2 k n) : BitVec 8).toNat < 16

variable {m}

/-- A row of weights in slot `j`. -/
theorem wAt_w {c : Dev nD} (hT : InTable m c) (j : Fin 8) (k : Fin 2048) (n : Fin 1024) (n' : Fin 8192) (h : n'.val = j.val * 1024 + n.val) :
    wAt m c j k.val n.val n.isLt = Spec.weight (m ((c : Thread nD τ).loc main_arg1)) (m ((c : Thread nD τ).loc main_arg2))
      (m ((c : Thread nD τ).loc main_arg3)) (m ((c : Thread nD τ).loc main_arg4)) (m ((c : Thread nD τ).loc main_arg5)) k n' := by
  have e3 := iblk3 m c j k n n' h
  have hk := hT k n'
  have hc : (iblk m c 3 (ptW j) (ix2 k n) : BitVec 8).toNat < 16 := by rw [e3]; exact hk
  refine (wTile_w (iblk m c 0 (ptW j)) (iblk m c 1 (ptW j)) (iblk m c 3 (ptW j)) (iblk m c 4 (ptW j)) (iblk m c 5 (ptW j)) (iblk m c 7 (ptW j)) k n hc).trans ?_
  refine congrArg₂ (· * ·) ((iblk0 m c _ _).trans (congrArg (fun e => m ((c : Thread nD τ).loc main_arg2) (ix1 e)) (Fin.ext ?_)))
    (congrArg₂ (· + ·) (congrArg₂ (· * ·) (congrArg (fun z : BitVec 8 => ((z.toInt : ℝ) : EReal)) (iblk4 m c j _ n n' h)) ?_) (iblk1 m c _ 0))
  · show (iblk m c 3 (ptW j) (ix2 k n) : BitVec 8).toNat = min (m ((c : Thread nD τ).loc main_arg1) (ix2 k n') : BitVec 8).toNat 15
    rw [e3]; omega
  · exact iblk5 m c j 0 _ _ ⟨n'.val / 256, by omega⟩ (by show n'.val / 256 = j.val * 4 + n.val / 256; omega)

/-- A row of the low-rank factor in slot `j`. -/
theorem wAt_b (c : Dev nD) (j : Fin 8) (r : Fin 16) (n : Fin 1024) (n' : Fin 8192) (h : n'.val = j.val * 1024 + n.val) :
    wAt m c j (2048 + r.val) n.val n.isLt = m ((c : Thread nD τ).loc main_arg7) (ix2 r n') :=
  (wTile_b (iblk m c 0 (ptW j)) (iblk m c 1 (ptW j)) (iblk m c 3 (ptW j)) (iblk m c 4 (ptW j)) (iblk m c 5 (ptW j)) (iblk m c 7 (ptW j)) r n).trans (iblk7 m c j r n n' h)

/-- A row of zeros in slot `j`. -/
theorem wAt_z (c : Dev nD) (j : Fin 8) (z : Fin 112) (n : Fin 1024) : wAt m c j (2064 + z.val) n.val n.isLt = (0 : EReal) :=
  wTile_z (iblk m c 0 (ptW j)) (iblk m c 1 (ptW j)) (iblk m c 3 (ptW j)) (iblk m c 4 (ptW j)) (iblk m c 5 (ptW j)) (iblk m c 7 (ptW j)) z n

/-- What point `t` leaves in its output block, at an entry. -/
theorem outT_apply {c : Dev nD} (hT : InTable m c) (t : Fin cfg0.N) (r : Fin 512) (n : Fin 1024) (b : Fin 8) (s : Fin 2048) (n' : Fin 8192)
    (h : b.val * 2048 + s.val = t.val / 8 * 512 + r.val) (hn : n'.val = t.val % 8 * 1024 + n.val) :
    outT m c t (ix2 r n) = goal m c b s n' := by
  have hx : ∀ k : Fin 2048, iblk m c 2 (ptX t) (ix2 r k) = m ((c : Thread nD τ).loc main_arg0) (ix3 b s k) := fun k =>
    iblk2 m c (ptX t) r k b s (by show _ = t.val / 8 * 8 / 8 * 512 + r.val; omega)
  have hj : n'.val = (grid0.coords t 1).val * 1024 + n.val := by rw [coords1]; exact hn
  refine (pay7_apply (xAt m c t) (wSlot m c t) (iblk m c 8 t) r n).trans ?_
  refine Eq.trans (congrArg₂ (· + ·) ((sum_split _).trans (congrArg₂ (· + ·) (Finset.sum_congr rfl fun k _ => congrArg₂ (· * ·) ?_ ?_)
    (congrArg₂ (· + ·) (Finset.sum_congr rfl fun q _ => congrArg₂ (· * ·) ?_ ?_) (Finset.sum_congr rfl fun z _ => congrArg₂ (· * ·) ?_ ?_))))
    (iblk8 m c t 0 n n' hn)) (Spec.regroup _ _ _ _)
  · exact (xTile_x _ _ r k (by omega)).trans (hx k)
  · exact wAt_w hT (grid0.coords t 1) k n n' hj
  · exact (xTile_h _ _ r q (by omega)).trans (congrArg (· * (2 : EReal)) (Finset.sum_congr rfl fun k _ => congrArg₂ (· * ·) (hx k) (iblk6 m c (ptX t) k q)))
  · exact wAt_b c (grid0.coords t 1) q n n' hj
  · exact xTile_z _ _ r z (by omega)
  · exact wAt_z c (grid0.coords t 1) z n

/-- The region's output array: row `2048 b + s` holds position `s` of batch `b`. -/
theorem out_array {c : Dev nD} (hT : InTable m c) :
    (dats m 0 c).arrAt 9 cfg0.N = (fun y : S16384x8192.Idx =>
      goal m c ⟨(y 0).val / 2048, by have := (y 0).isLt; change _ < 16384 at this; omega⟩ ⟨(y 0).val % 2048, by omega⟩ (y 1)) := by
  refine (dats m 0 c).arrAt_eq_of_covers 9 _ (by decide +kernel) fun t _ y => ?_
  blk_simp
  rw [after0_9]
  obtain ⟨r, n, rfl⟩ : ∃ (r : Fin 512) (n : Fin 1024), y = ix2 r n := ⟨y 0, y 1, eq_ix2 y⟩
  have ht : t.val < 256 := Nat.lt_of_lt_of_eq t.isLt N_0
  have e := idx t
  refine outT_apply hT t r n _ _ _ ?_ ?_
  · show (win0_9.index t 0 * 512 + r.val) / 2048 * 2048 + (win0_9.index t 0 * 512 + r.val) % 2048 = _
    rw [show win0_9.index t 0 = t.val / 8 from by simp only [e]; rfl]
    omega
  · blk_simp [e]

/-- The output array's rows as batches and positions. -/
theorem batches_apply (G : S16384x8192.Idx → EReal) (b : Fin 8) (s : Fin 2048) (n : Fin 8192) :
    shapeCast S8x2048x8192 (G : Vec Ideal S16384x8192 .f32) shapeCasts_S16384x8192_S8x2048x8192 (ix3 b s n)
      = G (ix2 ⟨b.val * 2048 + s.val, by omega⟩ n) := by
  pointwise

/-- What the program returns: the reshaped output array. -/
theorem tail_v5 (c : Dev nD) :
    Pipeline.afterTail₀ cfgs (dats m) 0 (V0 m) [hostOps1] c main_v5
      = shapeCast S8x2048x8192 ((dats m 0 c).arrAt 9 cfg0.N : Vec Ideal S16384x8192 .f32) shapeCasts_S16384x8192_S8x2048x8192 := by
  unfold Pipeline.afterTail₀
  have e := Pipeline.withArrays_arr spec0 (by decide) c (V0 m c) (fun w => (dats m 0 c).arrAt w (cfgs 0).N) 9
  simp only [hostOps1, List.flatten_cons, List.flatten_nil, List.append_nil, List.cons_append, List.nil_append]
  refine Eq.trans (by after_results_simp <;> rfl) (congrArg (fun v : Vec Ideal S16384x8192 .f32 => shapeCast S8x2048x8192 v shapeCasts_S16384x8192_S8x2048x8192) e)

variable (m)

/-- The kernel terminates with its result at the layer's entries and its arguments unchanged. -/
theorem run_value (hT : ∀ c, InTable m c) (ρ : Dev nD → PrngReg) :
    θ_run defs (onTc (τ := τ) (main (F := Ideal))) ⟨m, fun _ => 0, ρ⟩ fun r => ∀ c : Dev nD,
      r.2.mem ((c.tc : Thread nD τ).loc main_v5) = (fun y : S8x2048x8192.Idx => goal m c (y 0) (y 1) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  have h1 : θ_run defs (onTc (τ := τ) (main (F := Ideal))) ⟨m, fun _ => 0, ρ⟩ fun r => ∀ c : Dev nD,
      r.2.mem ((c.tc : Thread nD τ).loc main_v5) = (fun y : S8x2048x8192.Idx => goal m c (y 0) (y 1) (y 2)) := by
    refine (θ_run defs _ _).mono (fun _ h c => ((h c).2 main_v5 (Pipeline.mem_restRefs_of main_v5 (by decide) (by decide))).trans ((tail_v5 c).trans ?_)) (run_main m ρ)
    rw [out_array (hT c)]
    funext y
    obtain ⟨b, s, n, rfl⟩ : ∃ (b : Fin 8) (s : Fin 2048) (n : Fin 8192), y = ix3 b s n := ⟨y 0, y 1, y 2, eq_ix3 y⟩
    refine (batches_apply _ b s n).trans ?_
    exact congrArg₂ (fun b s => goal m c b s n) (Fin.ext (by show (b.val * 2048 + s.val) / 2048 = b.val; omega)) (Fin.ext (by show (b.val * 2048 + s.val) % 2048 = s.val; omega))
  exact (θ_run defs _ _).mono (fun _ h c => ⟨h.1 c, h.2 c⟩) (θ_run_and h1 (frame_of m ρ (dats m) (A_eq m) (run_main m ρ)))

end Cert.KernelIdeal.Hand

end
-- ==== Proof.Value.Ref.lean ====
/-
  The reference's result, entry by entry.
-/
module

public import proofs.«01_k».proof.Proof.Gen.ReferenceIdeal.Run
public import proofs.«01_k».proof.Proof.Value.Spec
public import Idealize.ShloMosaic.Lib.ValueIdxCore

@[expose] public section

set_option maxRecDepth 16384

noncomputable section

namespace Cert.ReferenceIdeal.RefValue

open Cert.ReferenceIdeal Cert.ReferenceIdeal.Gen Cert.ReferenceIdeal.Facts Idealize.ShloMosaic Idealize.ShloMosaic.TcCoe Idealize.SL.Sem

/-- The block maxima. -/
def absmax (amc : IVec S32x8192 8) (scale : FVec Ideal S32x32 .f32) (off : FVec Ideal S1 .f32) : FVec Ideal S32x8192 .f32 :=
  addf (shapeCast _ (mulf (shapeCast _ (sitofp .f32 (extsi 32 amc natLt_8_32)) shapeCasts_S32x8192_S32x32x256) (broadcastInDim S32x32x256 ![0, 1, 2] bcast_S32x32x1_S32x32x256_0_1_2 (broadcastInDim S32x32x1 ![0, 1] bcast_S32x32_S32x32x1_0_1 scale))) shapeCasts_S32x32x256_S32x8192) (broadcastInDim S32x8192 ![0, 1] bcast_S1x1_S32x8192_0_1 (broadcastInDim S1x1 ![1] bcast_S1_S1x1_1 off))

/-- The table's entries of the codes. -/
def looked (codes : IVec S2048x8192 8) (table : FVec Ideal S16 .f32) : FVec Ideal S2048x8192 .bf16 :=
  Host.gather gather_S16_S2048x8192x1_S2048x8192_n_0_n_n_0_2_1 (truncf .bf16 table bitsLt_bf16_f32) (broadcastInDim S2048x8192x1 ![0, 1] bcast_S2048x8192_S2048x8192x1_0_1 (select (cmpi .slt (extui 32 codes natLt_8_32) (broadcastInDim S2048x8192 ![] bcast_S_S2048x8192 (constantI S_ 32 0#32))) (addi (extui 32 codes natLt_8_32) (broadcastInDim S2048x8192 ![] bcast_S_S2048x8192 (constantI S_ 32 16#32))) (extui 32 codes natLt_8_32)))

/-- The weights: entries times block maxima. -/
def scaled (v : FVec Ideal S2048x8192 .bf16) (am : FVec Ideal S32x8192 .f32) : FVec Ideal S2048x8192 .bf16 :=
  shapeCast _ (mulf (shapeCast _ v shapeCasts_S2048x8192_S32x64x8192) (broadcastInDim S32x64x8192 ![0, 1, 2] bcast_S32x1x8192_S32x64x8192_0_1_2 (broadcastInDim S32x1x8192 ![0, 2] bcast_S32x8192_S32x1x8192_0_2 (truncf .bf16 am bitsLt_bf16_f32)))) shapeCasts_S32x64x8192_S2048x8192

/-- The layer, given its weights. -/
def layer (x : FVec Ideal S8x2048x2048 .f32) (w : FVec Ideal S2048x8192 .bf16) (a : FVec Ideal S2048x16 .bf16) (lb : FVec Ideal S16x8192 .bf16)
    (bias : FVec Ideal S8192 .f32) : FVec Ideal S8x2048x8192 .f32 :=
  addf (addf (Host.dotGeneral dot_S8x2048x2048_S2048x8192_S8x2048x8192_2_0_01_1_n_n none (truncf .bf16 x bitsLt_bf16_f32) w) (mulf (broadcastInDim S8x2048x8192 ![] bcast_S_S8x2048x8192 (constant S_ .f32 0x40000000#32)) (Host.dotGeneral dot_S8x2048x16_S16x8192_S8x2048x8192_2_0_01_1_n_n none (truncf .bf16 (Host.dotGeneral dot_S8x2048x2048_S2048x16_S8x2048x16_2_0_01_1_n_n none (truncf .bf16 x bitsLt_bf16_f32) a) bitsLt_bf16_f32) lb))) (broadcastInDim S8x2048x8192 ![0, 1, 2] bcast_S1x1x8192_S8x2048x8192_0_1_2 (broadcastInDim S1x1x8192 ![2] bcast_S8192_S1x1x8192_2 bias))

/-- The float32 pattern of 2. -/
theorem ofBits_two : Ideal.ofBits .f32 0x40000000#32 = 2 := by
  have h : Ideal.ofBits .f32 0x40000000#32 = ((2 : ℝ) : EReal) := by
    simp [Ideal.ofBits, Ideal.ieee, -EReal.coe_mul]; norm_num
  exact h

/-- A byte read as a 32-bit index is not negative, so jax's wrap of negative indices leaves it. -/
theorem index_of_code (c : BitVec 8) :
    (Scalar.select (Scalar.cmpi .slt (c.setWidth 32) 0#32) (Scalar.addi (c.setWidth 32) 16#32)
      (c.setWidth 32) : BitVec 32).toInt.toNat = c.toNat := by
  revert c
  decide

/-- A block maximum. -/
theorem absmax_apply (amc : IVec S32x8192 8) (scale : FVec Ideal S32x32 .f32) (off : FVec Ideal S1 .f32) (q : Fin 32) (n : Fin 8192) :
    absmax amc scale off (ix2 q n) = ((((amc (ix2 q n)).toInt : ℝ) : EReal) * scale (ix2 q ⟨n.val / 256, by omega⟩) + off (ix1 0) : EReal) := by
  pointwise [absmax]
  refine congrArg (fun z : ℤ => ((z : ℝ) : EReal) * scale (ix2 q ⟨n.val / 256, by omega⟩) + off (ix1 0)) ?_
  exact BitVec.toInt_signExtend_of_le (by decide)

/-- The codes as the gather reads them. -/
theorem starts_apply (v : IVec S2048x8192 32) (k : Fin 2048) (n : Fin 8192) :
    broadcastInDim S2048x8192x1 ![0, 1] bcast_S2048x8192_S2048x8192x1_0_1 v (ValueIdx.takeIdx (ix2 k n)) = v (ix2 k n) := by
  have e : (ValueIdx.takeIdx (ix2 k n) : S2048x8192x1.Idx) = ix3 k n 0 := by
    funext a; fin_cases a <;> rfl
  refine (congrArg (broadcastInDim S2048x8192x1 ![0, 1] bcast_S2048x8192_S2048x8192x1_0_1 v) e).trans ?_
  pointwise

/-- A table entry. -/
theorem looked_apply (codes : IVec S2048x8192 8) (table : FVec Ideal S16 .f32) (k : Fin 2048) (n : Fin 8192) :
    looked codes table (ix2 k n) = table (ix1 ⟨min (codes (ix2 k n)).toNat 15, by omega⟩) := by
  refine (ValueIdx.gather_take_apply (N := 16) (by decide) gather_S16_S2048x8192x1_S2048x8192_n_0_n_n_0_2_1.wf _ _ (ix2 k n)).trans ?_
  refine congrArg table (congrArg ix1 (Fin.ext (congrArg (min · 15) ?_)))
  exact (congrArg (fun z : BitVec 32 => z.toInt.toNat) (starts_apply _ k n)).trans (index_of_code (codes (ix2 k n)))

/-- A weight. -/
theorem scaled_apply (v : FVec Ideal S2048x8192 .bf16) (am : FVec Ideal S32x8192 .f32) (k : Fin 2048) (n : Fin 8192) :
    scaled v am (ix2 k n) = (v (ix2 k n) * am (ix2 ⟨k.val / 64, by omega⟩ n) : EReal) := by
  pointwise [scaled]

/-- An entry of the layer. -/
theorem layer_apply (x : FVec Ideal S8x2048x2048 .f32) (w : FVec Ideal S2048x8192 .bf16) (a : FVec Ideal S2048x16 .bf16) (lb : FVec Ideal S16x8192 .bf16)
    (bias : FVec Ideal S8192 .f32) (b : Fin 8) (s : Fin 2048) (n : Fin 8192) :
    layer x w a lb bias (ix3 b s n) = ((∑ k : Fin 2048, x (ix3 b s k) * w (ix2 k n))
      + 2 * (∑ r : Fin 16, (∑ k : Fin 2048, x (ix3 b s k) * a (ix2 k r)) * lb (ix2 r n)) + bias (ix1 n) : EReal) := by
  pointwise [layer]
  rw [ofBits_two]

/-- The whole reference at an entry. -/
theorem result_apply (x : FVec Ideal S8x2048x2048 .f32) (codes : IVec S2048x8192 8) (table : FVec Ideal S16 .f32) (amc : IVec S32x8192 8)
    (scale : FVec Ideal S32x32 .f32) (off : FVec Ideal S1 .f32) (a : FVec Ideal S2048x16 .bf16) (lb : FVec Ideal S16x8192 .bf16)
    (bias : FVec Ideal S8192 .f32) (b : Fin 8) (s : Fin 2048) (n : Fin 8192) :
    layer x (scaled (looked codes table) (absmax amc scale off)) a lb bias (ix3 b s n)
      = Spec.entry x codes table amc scale off a lb bias b s n := by
  refine (layer_apply x _ a lb bias b s n).trans ?_
  unfold Spec.entry
  refine congrArg₂ (· + ·) (congrArg₂ (· + ·) (Finset.sum_congr rfl fun k _ => congrArg (x (ix3 b s k) * ·) ?_) rfl) rfl
  refine (scaled_apply _ _ k n).trans ?_
  exact congrArg₂ (· * ·) (looked_apply codes table k n) (absmax_apply amc scale off _ n)

/-- The reference terminates with its result at the layer's entries and its arguments unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v35)
          = (fun y : S8x2048x8192.Idx => Spec.entry (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
              (m ((c.tc : Thread nD τ).loc main_arg5)) (m ((c.tc : Thread nD τ).loc main_arg6)) (m ((c.tc : Thread nD τ).loc main_arg7))
              (m ((c.tc : Thread nD τ).loc main_arg8)) (y 0) (y 1) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun _ h c => ⟨((h c).1).trans ?_, (h c).2⟩) (Value.run m ρ)
  funext y
  obtain ⟨b, s, n, rfl⟩ : ∃ (b : Fin 8) (s : Fin 2048) (n : Fin 8192), y = ix3 b s n := ⟨y 0, y 1, y 2, eq_ix3 y⟩
  exact result_apply _ _ _ _ _ _ _ _ _ b s n

end Cert.ReferenceIdeal.RefValue

end
-- ==== Proof.Value.Equal.lean ====
/-
  Kernel and reference compute the same function over the extended reals, when every code of the weights names a table entry.
-/
module

public import proofs.«01_k».proof.Defs
public import proofs.«01_k».proof.Proof.Gen.Kernel
public import proofs.«01_k».proof.Proof.Value.Kernel
public import proofs.«01_k».proof.Proof.Value.Ref

@[expose] public section

noncomputable section

namespace Cert.Equal

open Idealize.ShloMosaic Idealize.SL.Sem

/-- The precondition's one shape relation. -/
theorem preFacts : Cert.Pre_codes_in_table.Facts where
  bcast_S_S2048x8192 := by decide

/-- A byte that compares below 16 is a number below 16. -/
theorem lt_of_ult (c : BitVec 8) (h : Scalar.cmpi .ult c 16#8 = 1#1) : c.toNat < 16 := by
  revert c
  decide

/-- The precondition says that every code is below 16. -/
theorem inTable (m : (ℓ : Loc Cert.KernelIdeal.nD Cert.KernelIdeal.τ Cert.KernelIdeal.sig) → Buf (Elt Ideal) ℓ)
    (h : Cert.Pre_KernelIdeal_codes_in_table (hPre_codes_in_table := preFacts) m) (c : Dev Cert.KernelIdeal.nD) :
    Cert.KernelIdeal.Hand.InTable m c := fun k n => lt_of_ult _ (congrFun (h c) (ix2 k n))

/-- From memories that agree on the arguments, with every code below 16, both programs return the layer's entries. -/
theorem equal : Cert.algebraic_KernelIdeal_ReferenceIdeal_pre_codes_in_table (hKernelIdeal := Cert.KernelIdeal.Gen.facts)
    (hReferenceIdeal := Cert.ReferenceIdeal.Gen.facts) (hPre_codes_in_table := preFacts) := by
  intro m g m' g' hpre harg
  refine ⟨fun c y => Cert.KernelIdeal.Hand.goal m c (y 0) (y 1) (y 2), Cert.KernelIdeal.Hand.run_value m (inTable m hpre) g, ?_⟩
  refine (θ_run _ _ _).mono (fun _ h c => ⟨(h c).1.trans ?_, (h c).2⟩) (Cert.ReferenceIdeal.RefValue.run_value m' g')
  obtain ⟨h0, h1, h2, h3, h4, h5, h6, h7, h8⟩ := harg c
  rw [h0, h1, h2, h3, h4, h5, h6, h7, h8]
  rfl

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ideal.Body
public import proofs.«01_k».proof.Proof.Ideal.RefRun
public import proofs.«01_k».proof.Proof.Kern.Frame
public import proofs.«01_k».proof.Proof.Value.Equal
public import Idealize.ShloMosaic.Adequacy
public import Idealize.ShloMosaic.Init

@[expose] public section

noncomputable section

namespace Cert.Proof

open Idealize.ShloMosaic Idealize.SL.Sem Cert.Kernel

/-- The three programs run to the end and leave their arguments as they were; the ideal program is the kernel's own text; and, when
    every code of the weights is below 16, it returns what the reference returns, over the extended reals. -/
theorem claim : Cert.Claim := ⟨Cert.Kernel.Gen.facts, Cert.KernelIdeal.Gen.facts, Cert.ReferenceIdeal.Gen.facts, Cert.Equal.preFacts,
  fun m ρ _ => Cert.KernelFrame.frame m ρ, fun m ρ _ => Cert.KernelIdeal.Hand.frame m ρ, fun m ρ _ => Cert.KernelIdeal.Hand.frame m ρ,
  fun m ρ _ => Cert.ReferenceIdeal.RefValue.frame m ρ, fun m ρ _ => Cert.ReferenceIdeal.RefValue.frame m ρ, trivial, Cert.Equal.equal⟩

end Cert.Proof

end
